-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S33554432 : Shape := ⟨1, ![33554432]⟩
abbrev S8388608 : Shape := ⟨1, ![8388608]⟩
abbrev S32768 : Shape := ⟨1, ![32768]⟩
abbrev S_ : Shape := ⟨0, ![]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S33554432, .f32⟩
  | .hbm, ⟨3, _⟩ => ⟨S8388608, .f32⟩
  | .hbm, ⟨4, _⟩ => ⟨S33554432, .f32⟩
  | .hbm, ⟨5, _⟩ => ⟨S4x8192x1024, .f32⟩
  | .local .scVector .vmem, ⟨0, _⟩ => ⟨S32768, .f32⟩
  | .local .scVector .vmem, ⟨1, _⟩ => ⟨S32768, .f32⟩
  | .local .scVector .vmem, ⟨2, _⟩ => ⟨S32768, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c1024_i32 : BitVec 32 := 1024#32
  let v4 : BitVec 32 := Scalar.muli v3 c1024_i32
  ![v4.toNat]
def k0_off2 (i : grid0.Coords) (c0_i32_0 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v7 : BitVec 32 := Scalar.addi c0_i32_0 v2
  let v8 : BitVec 32 := Scalar.addi v7 c0_i32_1
  let c1024_i32_2 : BitVec 32 := 1024#32
  let v9 : BitVec 32 := Scalar.muli v8 c1024_i32_2
  ![v9.toNat]
@[reducible] def k0_t1_loop : Scf.Loop 32 :=
  let c0_i32_10 : BitVec 32 := 0#32
  let c2048_i32 : BitVec 32 := 2048#32
  let v26 : BitVec 32 := Scalar.addi c0_i32_10 c2048_i32
  let c1_i32 : BitVec 32 := 1#32
  ⟨c0_i32_10, v26, c1_i32⟩
def k0_off3 (k0_t1 : Fin k0_t1_loop.trips) : Fin 1 → Nat :=
  let c0_i32_531 : BitVec 32 := 0#32
  let c0_i32_10 : BitVec 32 := 0#32
  let c1_i32 : BitVec 32 := 1#32
  let arg13 : BitVec 32 := Scf.iv c0_i32_10 c1_i32 k0_t1
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t2_loop : Scf.Loop 32 :=
  let c0_i32_23 : BitVec 32 := 0#32
  let c2048_i32_24 : BitVec 32 := 2048#32
  let v47 : BitVec 32 := Scalar.addi c0_i32_23 c2048_i32_24
  let c1_i32_25 : BitVec 32 := 1#32
  ⟨c0_i32_23, v47, c1_i32_25⟩
def k0_off4 (k0_t2 : Fin k0_t2_loop.trips) : Fin 1 → Nat :=
  let c0_i32_531 : BitVec 32 := 0#32
  let c0_i32_23 : BitVec 32 := 0#32
  let c1_i32_25 : BitVec 32 := 1#32
  let arg13 : BitVec 32 := Scf.iv c0_i32_23 c1_i32_25 k0_t2
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t3_loop : Scf.Loop 32 :=
  let c0_i32_38 : BitVec 32 := 0#32
  let c2048_i32_39 : BitVec 32 := 2048#32
  let v68 : BitVec 32 := Scalar.addi c0_i32_38 c2048_i32_39
  let c1_i32_40 : BitVec 32 := 1#32
  ⟨c0_i32_38, v68, c1_i32_40⟩
def k0_off5 (k0_t3 : Fin k0_t3_loop.trips) : Fin 1 → Nat :=
  let c0_i32_531 : BitVec 32 := 0#32
  let c0_i32_38 : BitVec 32 := 0#32
  let c1_i32_40 : BitVec 32 := 1#32
  let arg13 : BitVec 32 := Scf.iv c0_i32_38 c1_i32_40 k0_t3
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t4_loop : Scf.Loop 32 :=
  let c0_i32_53 : BitVec 32 := 0#32
  let c2048_i32_54 : BitVec 32 := 2048#32
  let v89 : BitVec 32 := Scalar.addi c0_i32_53 c2048_i32_54
  let c1_i32_55 : BitVec 32 := 1#32
  ⟨c0_i32_53, v89, c1_i32_55⟩
def k0_off6 (k0_t4 : Fin k0_t4_loop.trips) : Fin 1 → Nat :=
  let c0_i32_531 : BitVec 32 := 0#32
  let c0_i32_53 : BitVec 32 := 0#32
  let c1_i32_55 : BitVec 32 := 1#32
  let arg13 : BitVec 32 := Scf.iv c0_i32_53 c1_i32_55 k0_t4
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t5_loop : Scf.Loop 32 :=
  let c0_i32_73 : BitVec 32 := 0#32
  let c2048_i32_74 : BitVec 32 := 2048#32
  let v118 : BitVec 32 := Scalar.addi c0_i32_73 c2048_i32_74
  let c1_i32_75 : BitVec 32 := 1#32
  ⟨c0_i32_73, v118, c1_i32_75⟩
def k0_off7 (k0_t5 : Fin k0_t5_loop.trips) : Fin 1 → Nat :=
  let c0_i32_531 : BitVec 32 := 0#32
  let c0_i32_73 : BitVec 32 := 0#32
  let c1_i32_75 : BitVec 32 := 1#32
  let arg13 : BitVec 32 := Scf.iv c0_i32_73 c1_i32_75 k0_t5
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t6_loop : Scf.Loop 32 :=
  let c0_i32_89 : BitVec 32 := 0#32
  let c2048_i32_90 : BitVec 32 := 2048#32
  let v139 : BitVec 32 := Scalar.addi c0_i32_89 c2048_i32_90
  let c1_i32_91 : BitVec 32 := 1#32
  ⟨c0_i32_89, v139, c1_i32_91⟩
def k0_off8 (k0_t6 : Fin k0_t6_loop.trips) : Fin 1 → Nat :=
  let c0_i32_531 : BitVec 32 := 0#32
  let c0_i32_89 : BitVec 32 := 0#32
  let c1_i32_91 : BitVec 32 := 1#32
  let arg13 : BitVec 32 := Scf.iv c0_i32_89 c1_i32_91 k0_t6
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t7_loop : Scf.Loop 32 :=
  let c0_i32_105 : BitVec 32 := 0#32
  let c2048_i32_106 : BitVec 32 := 2048#32
  let v160 : BitVec 32 := Scalar.addi c0_i32_105 c2048_i32_106
  let c1_i32_107 : BitVec 32 := 1#32
  ⟨c0_i32_105, v160, c1_i32_107⟩
def k0_off9 (k0_t7 : Fin k0_t7_loop.trips) : Fin 1 → Nat :=
  let c0_i32_531 : BitVec 32 := 0#32
  let c0_i32_105 : BitVec 32 := 0#32
  let c1_i32_107 : BitVec 32 := 1#32
  let arg13 : BitVec 32 := Scf.iv c0_i32_105 c1_i32_107 k0_t7
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t8_loop : Scf.Loop 32 :=
  let c0_i32_120 : BitVec 32 := 0#32
  let c2048_i32_121 : BitVec 32 := 2048#32
  let v181 : BitVec 32 := Scalar.addi c0_i32_120 c2048_i32_121
  let c1_i32_122 : BitVec 32 := 1#32
  ⟨c0_i32_120, v181, c1_i32_122⟩
def k0_off10 (k0_t8 : Fin k0_t8_loop.trips) : Fin 1 → Nat :=
  let c0_i32_531 : BitVec 32 := 0#32
  let c0_i32_120 : BitVec 32 := 0#32
  let c1_i32_122 : BitVec 32 := 1#32
  let arg13 : BitVec 32 := Scf.iv c0_i32_120 c1_i32_122 k0_t8
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t9_loop : Scf.Loop 32 :=
  let c0_i32_140 : BitVec 32 := 0#32
  let c2048_i32_141 : BitVec 32 := 2048#32
  let v210 : BitVec 32 := Scalar.addi c0_i32_140 c2048_i32_141
  let c1_i32_142 : BitVec 32 := 1#32
  ⟨c0_i32_140, v210, c1_i32_142⟩
def k0_off11 (k0_t9 : Fin k0_t9_loop.trips) : Fin 1 → Nat :=
  let c0_i32_531 : BitVec 32 := 0#32
  let c0_i32_140 : BitVec 32 := 0#32
  let c1_i32_142 : BitVec 32 := 1#32
  let arg13 : BitVec 32 := Scf.iv c0_i32_140 c1_i32_142 k0_t9
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t10_loop : Scf.Loop 32 :=
  let c0_i32_156 : BitVec 32 := 0#32
  let c2048_i32_157 : BitVec 32 := 2048#32
  let v231 : BitVec 32 := Scalar.addi c0_i32_156 c2048_i32_157
  let c1_i32_158 : BitVec 32 := 1#32
  ⟨c0_i32_156, v231, c1_i32_158⟩
def k0_off12 (k0_t10 : Fin k0_t10_loop.trips) : Fin 1 → Nat :=
  let c0_i32_531 : BitVec 32 := 0#32
  let c0_i32_156 : BitVec 32 := 0#32
  let c1_i32_158 : BitVec 32 := 1#32
  let arg13 : BitVec 32 := Scf.iv c0_i32_156 c1_i32_158 k0_t10
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t11_loop : Scf.Loop 32 :=
  let c0_i32_172 : BitVec 32 := 0#32
  let c2048_i32_173 : BitVec 32 := 2048#32
  let v252 : BitVec 32 := Scalar.addi c0_i32_172 c2048_i32_173
  let c1_i32_174 : BitVec 32 := 1#32
  ⟨c0_i32_172, v252, c1_i32_174⟩
def k0_off13 (k0_t11 : Fin k0_t11_loop.trips) : Fin 1 → Nat :=
  let c0_i32_531 : BitVec 32 := 0#32
  let c0_i32_172 : BitVec 32 := 0#32
  let c1_i32_174 : BitVec 32 := 1#32
  let arg13 : BitVec 32 := Scf.iv c0_i32_172 c1_i32_174 k0_t11
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t12_loop : Scf.Loop 32 :=
  let c0_i32_187 : BitVec 32 := 0#32
  let c2048_i32_188 : BitVec 32 := 2048#32
  let v273 : BitVec 32 := Scalar.addi c0_i32_187 c2048_i32_188
  let c1_i32_189 : BitVec 32 := 1#32
  ⟨c0_i32_187, v273, c1_i32_189⟩
def k0_off14 (k0_t12 : Fin k0_t12_loop.trips) : Fin 1 → Nat :=
  let c0_i32_531 : BitVec 32 := 0#32
  let c0_i32_187 : BitVec 32 := 0#32
  let c1_i32_189 : BitVec 32 := 1#32
  let arg13 : BitVec 32 := Scf.iv c0_i32_187 c1_i32_189 k0_t12
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t13_loop : Scf.Loop 32 :=
  let c0_i32_207 : BitVec 32 := 0#32
  let c2048_i32_208 : BitVec 32 := 2048#32
  let v302 : BitVec 32 := Scalar.addi c0_i32_207 c2048_i32_208
  let c1_i32_209 : BitVec 32 := 1#32
  ⟨c0_i32_207, v302, c1_i32_209⟩
def k0_off15 (k0_t13 : Fin k0_t13_loop.trips) : Fin 1 → Nat :=
  let c0_i32_531 : BitVec 32 := 0#32
  let c0_i32_207 : BitVec 32 := 0#32
  let c1_i32_209 : BitVec 32 := 1#32
  let arg13 : BitVec 32 := Scf.iv c0_i32_207 c1_i32_209 k0_t13
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t14_loop : Scf.Loop 32 :=
  let c0_i32_223 : BitVec 32 := 0#32
  let c2048_i32_224 : BitVec 32 := 2048#32
  let v323 : BitVec 32 := Scalar.addi c0_i32_223 c2048_i32_224
  let c1_i32_225 : BitVec 32 := 1#32
  ⟨c0_i32_223, v323, c1_i32_225⟩
def k0_off16 (k0_t14 : Fin k0_t14_loop.trips) : Fin 1 → Nat :=
  let c0_i32_531 : BitVec 32 := 0#32
  let c0_i32_223 : BitVec 32 := 0#32
  let c1_i32_225 : BitVec 32 := 1#32
  let arg13 : BitVec 32 := Scf.iv c0_i32_223 c1_i32_225 k0_t14
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t15_loop : Scf.Loop 32 :=
  let c0_i32_239 : BitVec 32 := 0#32
  let c2048_i32_240 : BitVec 32 := 2048#32
  let v344 : BitVec 32 := Scalar.addi c0_i32_239 c2048_i32_240
  let c1_i32_241 : BitVec 32 := 1#32
  ⟨c0_i32_239, v344, c1_i32_241⟩
def k0_off17 (k0_t15 : Fin k0_t15_loop.trips) : Fin 1 → Nat :=
  let c0_i32_531 : BitVec 32 := 0#32
  let c0_i32_239 : BitVec 32 := 0#32
  let c1_i32_241 : BitVec 32 := 1#32
  let arg13 : BitVec 32 := Scf.iv c0_i32_239 c1_i32_241 k0_t15
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t16_loop : Scf.Loop 32 :=
  let c0_i32_254 : BitVec 32 := 0#32
  let c2048_i32_255 : BitVec 32 := 2048#32
  let v365 : BitVec 32 := Scalar.addi c0_i32_254 c2048_i32_255
  let c1_i32_256 : BitVec 32 := 1#32
  ⟨c0_i32_254, v365, c1_i32_256⟩
def k0_off18 (k0_t16 : Fin k0_t16_loop.trips) : Fin 1 → Nat :=
  let c0_i32_531 : BitVec 32 := 0#32
  let c0_i32_254 : BitVec 32 := 0#32
  let c1_i32_256 : BitVec 32 := 1#32
  let arg13 : BitVec 32 := Scf.iv c0_i32_254 c1_i32_256 k0_t16
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t17_loop : Scf.Loop 32 :=
  let c0_i32_274 : BitVec 32 := 0#32
  let c2048_i32_275 : BitVec 32 := 2048#32
  let v394 : BitVec 32 := Scalar.addi c0_i32_274 c2048_i32_275
  let c1_i32_276 : BitVec 32 := 1#32
  ⟨c0_i32_274, v394, c1_i32_276⟩
def k0_off19 (k0_t17 : Fin k0_t17_loop.trips) : Fin 1 → Nat :=
  let c0_i32_531 : BitVec 32 := 0#32
  let c0_i32_274 : BitVec 32 := 0#32
  let c1_i32_276 : BitVec 32 := 1#32
  let arg13 : BitVec 32 := Scf.iv c0_i32_274 c1_i32_276 k0_t17
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t18_loop : Scf.Loop 32 :=
  let c0_i32_290 : BitVec 32 := 0#32
  let c2048_i32_291 : BitVec 32 := 2048#32
  let v415 : BitVec 32 := Scalar.addi c0_i32_290 c2048_i32_291
  let c1_i32_292 : BitVec 32 := 1#32
  ⟨c0_i32_290, v415, c1_i32_292⟩
def k0_off20 (k0_t18 : Fin k0_t18_loop.trips) : Fin 1 → Nat :=
  let c0_i32_531 : BitVec 32 := 0#32
  let c0_i32_290 : BitVec 32 := 0#32
  let c1_i32_292 : BitVec 32 := 1#32
  let arg13 : BitVec 32 := Scf.iv c0_i32_290 c1_i32_292 k0_t18
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t19_loop : Scf.Loop 32 :=
  let c0_i32_306 : BitVec 32 := 0#32
  let c2048_i32_307 : BitVec 32 := 2048#32
  let v436 : BitVec 32 := Scalar.addi c0_i32_306 c2048_i32_307
  let c1_i32_308 : BitVec 32 := 1#32
  ⟨c0_i32_306, v436, c1_i32_308⟩
def k0_off21 (k0_t19 : Fin k0_t19_loop.trips) : Fin 1 → Nat :=
  let c0_i32_531 : BitVec 32 := 0#32
  let c0_i32_306 : BitVec 32 := 0#32
  let c1_i32_308 : BitVec 32 := 1#32
  let arg13 : BitVec 32 := Scf.iv c0_i32_306 c1_i32_308 k0_t19
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t20_loop : Scf.Loop 32 :=
  let c0_i32_321 : BitVec 32 := 0#32
  let c2048_i32_322 : BitVec 32 := 2048#32
  let v457 : BitVec 32 := Scalar.addi c0_i32_321 c2048_i32_322
  let c1_i32_323 : BitVec 32 := 1#32
  ⟨c0_i32_321, v457, c1_i32_323⟩
def k0_off22 (k0_t20 : Fin k0_t20_loop.trips) : Fin 1 → Nat :=
  let c0_i32_531 : BitVec 32 := 0#32
  let c0_i32_321 : BitVec 32 := 0#32
  let c1_i32_323 : BitVec 32 := 1#32
  let arg13 : BitVec 32 := Scf.iv c0_i32_321 c1_i32_323 k0_t20
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t21_loop : Scf.Loop 32 :=
  let c0_i32_341 : BitVec 32 := 0#32
  let c2048_i32_342 : BitVec 32 := 2048#32
  let v486 : BitVec 32 := Scalar.addi c0_i32_341 c2048_i32_342
  let c1_i32_343 : BitVec 32 := 1#32
  ⟨c0_i32_341, v486, c1_i32_343⟩
def k0_off23 (k0_t21 : Fin k0_t21_loop.trips) : Fin 1 → Nat :=
  let c0_i32_531 : BitVec 32 := 0#32
  let c0_i32_341 : BitVec 32 := 0#32
  let c1_i32_343 : BitVec 32 := 1#32
  let arg13 : BitVec 32 := Scf.iv c0_i32_341 c1_i32_343 k0_t21
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t22_loop : Scf.Loop 32 :=
  let c0_i32_357 : BitVec 32 := 0#32
  let c2048_i32_358 : BitVec 32 := 2048#32
  let v507 : BitVec 32 := Scalar.addi c0_i32_357 c2048_i32_358
  let c1_i32_359 : BitVec 32 := 1#32
  ⟨c0_i32_357, v507, c1_i32_359⟩
def k0_off24 (k0_t22 : Fin k0_t22_loop.trips) : Fin 1 → Nat :=
  let c0_i32_531 : BitVec 32 := 0#32
  let c0_i32_357 : BitVec 32 := 0#32
  let c1_i32_359 : BitVec 32 := 1#32
  let arg13 : BitVec 32 := Scf.iv c0_i32_357 c1_i32_359 k0_t22
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t23_loop : Scf.Loop 32 :=
  let c0_i32_373 : BitVec 32 := 0#32
  let c2048_i32_374 : BitVec 32 := 2048#32
  let v528 : BitVec 32 := Scalar.addi c0_i32_373 c2048_i32_374
  let c1_i32_375 : BitVec 32 := 1#32
  ⟨c0_i32_373, v528, c1_i32_375⟩
def k0_off25 (k0_t23 : Fin k0_t23_loop.trips) : Fin 1 → Nat :=
  let c0_i32_531 : BitVec 32 := 0#32
  let c0_i32_373 : BitVec 32 := 0#32
  let c1_i32_375 : BitVec 32 := 1#32
  let arg13 : BitVec 32 := Scf.iv c0_i32_373 c1_i32_375 k0_t23
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t24_loop : Scf.Loop 32 :=
  let c0_i32_388 : BitVec 32 := 0#32
  let c2048_i32_389 : BitVec 32 := 2048#32
  let v549 : BitVec 32 := Scalar.addi c0_i32_388 c2048_i32_389
  let c1_i32_390 : BitVec 32 := 1#32
  ⟨c0_i32_388, v549, c1_i32_390⟩
def k0_off26 (k0_t24 : Fin k0_t24_loop.trips) : Fin 1 → Nat :=
  let c0_i32_531 : BitVec 32 := 0#32
  let c0_i32_388 : BitVec 32 := 0#32
  let c1_i32_390 : BitVec 32 := 1#32
  let arg13 : BitVec 32 := Scf.iv c0_i32_388 c1_i32_390 k0_t24
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t25_loop : Scf.Loop 32 :=
  let c0_i32_408 : BitVec 32 := 0#32
  let c2048_i32_409 : BitVec 32 := 2048#32
  let v578 : BitVec 32 := Scalar.addi c0_i32_408 c2048_i32_409
  let c1_i32_410 : BitVec 32 := 1#32
  ⟨c0_i32_408, v578, c1_i32_410⟩
def k0_off27 (k0_t25 : Fin k0_t25_loop.trips) : Fin 1 → Nat :=
  let c0_i32_531 : BitVec 32 := 0#32
  let c0_i32_408 : BitVec 32 := 0#32
  let c1_i32_410 : BitVec 32 := 1#32
  let arg13 : BitVec 32 := Scf.iv c0_i32_408 c1_i32_410 k0_t25
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t26_loop : Scf.Loop 32 :=
  let c0_i32_424 : BitVec 32 := 0#32
  let c2048_i32_425 : BitVec 32 := 2048#32
  let v599 : BitVec 32 := Scalar.addi c0_i32_424 c2048_i32_425
  let c1_i32_426 : BitVec 32 := 1#32
  ⟨c0_i32_424, v599, c1_i32_426⟩
def k0_off28 (k0_t26 : Fin k0_t26_loop.trips) : Fin 1 → Nat :=
  let c0_i32_531 : BitVec 32 := 0#32
  let c0_i32_424 : BitVec 32 := 0#32
  let c1_i32_426 : BitVec 32 := 1#32
  let arg13 : BitVec 32 := Scf.iv c0_i32_424 c1_i32_426 k0_t26
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t27_loop : Scf.Loop 32 :=
  let c0_i32_440 : BitVec 32 := 0#32
  let c2048_i32_441 : BitVec 32 := 2048#32
  let v620 : BitVec 32 := Scalar.addi c0_i32_440 c2048_i32_441
  let c1_i32_442 : BitVec 32 := 1#32
  ⟨c0_i32_440, v620, c1_i32_442⟩
def k0_off29 (k0_t27 : Fin k0_t27_loop.trips) : Fin 1 → Nat :=
  let c0_i32_531 : BitVec 32 := 0#32
  let c0_i32_440 : BitVec 32 := 0#32
  let c1_i32_442 : BitVec 32 := 1#32
  let arg13 : BitVec 32 := Scf.iv c0_i32_440 c1_i32_442 k0_t27
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t28_loop : Scf.Loop 32 :=
  let c0_i32_455 : BitVec 32 := 0#32
  let c2048_i32_456 : BitVec 32 := 2048#32
  let v641 : BitVec 32 := Scalar.addi c0_i32_455 c2048_i32_456
  let c1_i32_457 : BitVec 32 := 1#32
  ⟨c0_i32_455, v641, c1_i32_457⟩
def k0_off30 (k0_t28 : Fin k0_t28_loop.trips) : Fin 1 → Nat :=
  let c0_i32_531 : BitVec 32 := 0#32
  let c0_i32_455 : BitVec 32 := 0#32
  let c1_i32_457 : BitVec 32 := 1#32
  let arg13 : BitVec 32 := Scf.iv c0_i32_455 c1_i32_457 k0_t28
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t29_loop : Scf.Loop 32 :=
  let c0_i32_475 : BitVec 32 := 0#32
  let c2048_i32_476 : BitVec 32 := 2048#32
  let v670 : BitVec 32 := Scalar.addi c0_i32_475 c2048_i32_476
  let c1_i32_477 : BitVec 32 := 1#32
  ⟨c0_i32_475, v670, c1_i32_477⟩
def k0_off31 (k0_t29 : Fin k0_t29_loop.trips) : Fin 1 → Nat :=
  let c0_i32_531 : BitVec 32 := 0#32
  let c0_i32_475 : BitVec 32 := 0#32
  let c1_i32_477 : BitVec 32 := 1#32
  let arg13 : BitVec 32 := Scf.iv c0_i32_475 c1_i32_477 k0_t29
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t30_loop : Scf.Loop 32 :=
  let c0_i32_491 : BitVec 32 := 0#32
  let c2048_i32_492 : BitVec 32 := 2048#32
  let v691 : BitVec 32 := Scalar.addi c0_i32_491 c2048_i32_492
  let c1_i32_493 : BitVec 32 := 1#32
  ⟨c0_i32_491, v691, c1_i32_493⟩
def k0_off32 (k0_t30 : Fin k0_t30_loop.trips) : Fin 1 → Nat :=
  let c0_i32_531 : BitVec 32 := 0#32
  let c0_i32_491 : BitVec 32 := 0#32
  let c1_i32_493 : BitVec 32 := 1#32
  let arg13 : BitVec 32 := Scf.iv c0_i32_491 c1_i32_493 k0_t30
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t31_loop : Scf.Loop 32 :=
  let c0_i32_507 : BitVec 32 := 0#32
  let c2048_i32_508 : BitVec 32 := 2048#32
  let v712 : BitVec 32 := Scalar.addi c0_i32_507 c2048_i32_508
  let c1_i32_509 : BitVec 32 := 1#32
  ⟨c0_i32_507, v712, c1_i32_509⟩
def k0_off33 (k0_t31 : Fin k0_t31_loop.trips) : Fin 1 → Nat :=
  let c0_i32_531 : BitVec 32 := 0#32
  let c0_i32_507 : BitVec 32 := 0#32
  let c1_i32_509 : BitVec 32 := 1#32
  let arg13 : BitVec 32 := Scf.iv c0_i32_507 c1_i32_509 k0_t31
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
@[reducible] def k0_t32_loop : Scf.Loop 32 :=
  let c0_i32_517 : BitVec 32 := 0#32
  let c2048_i32_518 : BitVec 32 := 2048#32
  let v723 : BitVec 32 := Scalar.addi c0_i32_517 c2048_i32_518
  let c1_i32_519 : BitVec 32 := 1#32
  ⟨c0_i32_517, v723, c1_i32_519⟩
def k0_off34 (k0_t32 : Fin k0_t32_loop.trips) : Fin 1 → Nat :=
  let c0_i32_531 : BitVec 32 := 0#32
  let c0_i32_517 : BitVec 32 := 0#32
  let c1_i32_519 : BitVec 32 := 1#32
  let arg13 : BitVec 32 := Scf.iv c0_i32_517 c1_i32_519 k0_t32
  let c1_i32_530 : BitVec 32 := 1#32
  let v739 : BitVec 32 := Scalar.muli arg13 c1_i32_530
  let v740 : BitVec 32 := Scalar.addi c0_i32_531 v739
  let c16_i32 : BitVec 32 := 16#32
  let v741 : BitVec 32 := Scalar.muli v740 c16_i32
  let v742 : Index := Scalar.indexCast v741
  ![v742.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Program.lean ====
/-
  The tile task of `KernelIdeal`, written as a uniform sequence of steps. The printed body is a straight line of
  thirty-two steps, each a wait for a chunk of `x`, the refill of the other buffer, the addition loop and the
  start of the chunk's write-back. Here one step is a definition over the step's number and over which of the two
  chunk buffers it works in, and the printed body is shown to be those steps in order.
-/
module

public import proofs.«01_k».proof.Defs
public import proofs.«01_k».proof.Proof.Gen.KernelIdeal
public import proofs.«01_k».proof.Proof.Gen.KernelIdeal.Skeleton

@[expose] public section

noncomputable section

namespace Cert.Proof.PosAdd

open Cert.KernelIdeal Cert.KernelIdeal.Gen
open Idealize.ShloMosaic Idealize.SL.Sem

variable {F : FTy → Type} [FloatOps F]

/-! ## The memrefs of a task -/

/-- The flat `x`, position table and result, as a task addresses them. -/
abbrev xM : Memref sig .scVector .hbm S33554432 .f32 := Memref.whole main_v0_scv
abbrev posM : Memref sig .scVector .hbm S8388608 .f32 := Memref.whole main_v1_scv
abbrev outM : Memref sig .scVector .hbm S33554432 .f32 := Memref.whole main_v2_scv

/-- The two chunk buffers (`false` the even steps', `true` the odd steps') and the buffer of positions. -/
def xv : Bool → Memref sig .scVector .vmem S32768 .f32
  | false => Memref.whole cc0_scratch0
  | true => Memref.whole cc0_scratch1
abbrev pv : Memref sig .scVector .vmem S32768 .f32 := Memref.whole cc0_scratch2

/-- The semaphores of the fetches into and of the write-backs from a chunk buffer, and of the fetches of positions. -/
def sx : Bool → DmaSem sig
  | false => cc0_scratch3.sem
  | true => cc0_scratch4.sem
def so : Bool → DmaSem sig
  | false => cc0_scratch5.sem
  | true => cc0_scratch6.sem
abbrev sp : DmaSem sig := cc0_scratch7.sem

theorem xv_whole : ∀ p, (xv p).IsWhole
  | false => Memref.isWhole_whole _
  | true => Memref.isWhole_whole _

/-- Step `s` works on batch `s % 4` of chunk `s / 4`. -/
abbrev bat (s : ℕ) : Fin 4 := ⟨s % 4, Nat.mod_lt _ (by decide)⟩
abbrev chk (s : ℕ) : Fin 8 := ⟨s / 4 % 8, Nat.mod_lt _ (by decide)⟩

/-- Step `s`'s box of `x` and of the result, and the box of chunk `c` of the positions. -/
abbrev xBox (i : grid0.Coords) (s : ℕ) : Rect S33554432 :=
  Rect.unit (s := S33554432) (k0_off2 i (BitVec.ofNat 32 (8192 * (bat s).val)) (BitVec.ofNat 32 (32 * (chk s).val))) S32768.size
    (k0_off2_inb i (bat s) (chk s))
abbrev posBox (i : grid0.Coords) (c : Fin 8) : Rect S8388608 :=
  Rect.unit (s := S8388608) (k0_off1 i (BitVec.ofNat 32 (32 * c.val))) S32768.size (k0_off1_inb i c)

abbrev xSl (i : grid0.Coords) (s : ℕ) : Memref sig .scVector .hbm S32768 .f32 := xM.slice (xBox i s) (fun _ => rfl)
abbrev outSl (i : grid0.Coords) (s : ℕ) : Memref sig .scVector .hbm S32768 .f32 := outM.slice (xBox i s) (fun _ => rfl)
abbrev posSl (i : grid0.Coords) (c : Fin 8) : Memref sig .scVector .hbm S32768 .f32 := posM.slice (posBox i c) (fun _ => rfl)

/-! ## The steps -/

/-- The programs of the task at grid point `i`. -/
abbrev TProg (F : FTy → Type) (i : grid0.Coords) (α : Type) : Type 1 :=
  Prog (TpuEff nD τ sig (Elt F) Λ₀ (.scVector ((i 0).castLE hcore0) ((i 1).castLE hsub0))) α

section

variable (i : grid0.Coords)

/-- A transfer started, and one waited for. -/
def start {sp sp' : Space} (src : Memref sig .scVector sp S32768 .f32) (dst : Memref sig .scVector sp' S32768 .f32) (sem : DmaSem sig)
    (hs : src.view.WordExact) (hd : dst.view.WordExact) (hT : DmaTarget.Typed (nD := nD) (τ := τ) (p := .scVector ((i 0).castLE hcore0) ((i 1).castLE hsub0)) sp (.dma sem) (.here dst)) :
    TProg F i PUnit :=
  Prog.lift (.enqueueDma src (.here dst) (.dma sem) hs hd hT)
def await {sp sp' : Space} (src : Memref sig .scVector sp S32768 .f32) (dst : Memref sig .scVector sp' S32768 .f32) (sem : DmaSem sig)
    (hs : src.view.WordExact) (hd : dst.view.WordExact) : TProg F i PUnit :=
  Prog.lift (.waitDma2 sem src dst hs hd)

def startX (s : ℕ) (p : Bool) : TProg F i PUnit :=
  start i (xSl i s) (xv p) (sx p) (View.wordExact_bits rfl) (xv_whole p).wordExact ⟨Or.inl rfl, trivial⟩
def awaitX (s : ℕ) (p : Bool) : TProg F i PUnit :=
  await i (xSl i s) (xv p) (sx p) (View.wordExact_bits rfl) (xv_whole p).wordExact
def startOut (s : ℕ) (p : Bool) : TProg F i PUnit :=
  start i (xv p) (outSl i s) (so p) (xv_whole p).wordExact (View.wordExact_bits rfl) ⟨Or.inl rfl, trivial⟩
def awaitOut (s : ℕ) (p : Bool) : TProg F i PUnit :=
  await i (xv p) (outSl i s) (so p) (xv_whole p).wordExact (View.wordExact_bits rfl)
def startPos (c : Fin 8) : TProg F i PUnit :=
  start i (posSl i c) pv sp (View.wordExact_bits rfl) (Memref.isWhole_whole _).wordExact ⟨Or.inl rfl, trivial⟩
def awaitPos (c : Fin 8) : TProg F i PUnit :=
  await i (posSl i c) pv sp (View.wordExact_bits rfl) (Memref.isWhole_whole _).wordExact

/-- The sixteen elements trip `k` of the addition loop works on. -/
abbrev lane (k : Fin k0_t1_loop.trips) : Rect S32768 := Rect.unit (s := S32768) (k0_off3 k) S16.size (k0_off3_inb k)

/-- One trip of the addition loop over the chunk buffer `m`: sixteen elements of the buffer and sixteen positions read,
    and their sum stored back over the buffer's. -/
def addTrip (m : Memref sig .scVector .vmem S32768 .f32) (k : Fin k0_t1_loop.trips) (_ : Unit) : TProg F i Unit := do
  let a : Vec F S16 .f32 ← Prog.lift (.load m (lane k).toLoadRect (View.loadsAt_vmem h_S16))
  let b : Vec F S16 .f32 ← Prog.lift (.load pv (lane k).toLoadRect (View.loadsAt_vmem h_S16))
  let _ : Vec F S16 .f32 ← Prog.lift (.load m (lane k).toLoadRect (View.loadsAt_vmem h_S16))
  Prog.lift (.store m (lane k) (k0_pay1 a b) Finset.univ (View.stores_vmem_bits_univ h_S16 rfl) (.inl rfl))

def addLoop (m : Memref sig .scVector .vmem S32768 .f32) : TProg F i Unit :=
  Scf.Loop.for k0_t1_loop k0_t1_ok ⟨⟩ (addTrip i m)

/-- The waits step `s` begins with: for its chunk of `x`, and at the first batch of a chunk for the chunk's positions. -/
def arrive (s : ℕ) (p : Bool) : TProg F i PUnit :=
  awaitX i s p >>= fun _ => if s % 4 = 0 then awaitPos i (chk s) else pure ⟨⟩

/-- The other buffer emptied of the step before (if there was one) and refilled for the step after. -/
def refill (s : ℕ) (p : Bool) : TProg F i PUnit :=
  (if 1 ≤ s then awaitOut i (s - 1) (!p) else pure ⟨⟩) >>= fun _ => startX i (s + 1) (!p)

/-- The addition, the write-back's start, and after the last batch of a chunk the start of the next positions' fetch. -/
def finish (s : ℕ) (p : Bool) : TProg F i PUnit :=
  addLoop i (xv p) >>= fun _ => startOut i s p >>= fun _ =>
    if s % 4 = 3 ∧ s + 1 < 32 then startPos i (chk (s + 1)) else pure ⟨⟩

def step (s : ℕ) (p : Bool) : TProg F i PUnit :=
  arrive i s p >>= fun _ => refill i s p >>= fun _ => finish i s p

/-- `n` steps from step `s` on. -/
def steps : ℕ → ℕ → Bool → TProg F i PUnit
  | 0, _, _ => pure ⟨⟩
  | n + 1, s, p => step i s p >>= fun _ => steps n (s + 1) (!p)

/-- The whole task: the first fetches, thirty-one steps, the last step (which refills nothing), the last two waits. -/
def task : TProg F i PUnit :=
  startPos i 0 >>= fun _ => startX i 0 false >>= fun _ => steps i 31 0 false >>= fun _ =>
  arrive i 31 true >>= fun _ => finish i 31 true >>= fun _ => awaitOut i 30 false >>= fun _ => awaitOut i 31 true

/-- The printed body, at the memrefs it is called with. -/
abbrev printed : TProg F i PUnit :=
  cc0__sc_body (F := F) i xM (Memref.isWhole_whole _) posM (Memref.isWhole_whole _) outM (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7

set_option maxRecDepth 65536 in
set_option maxHeartbeats 4000000 in
/-- The printed body is the task. -/
theorem printed_eq_task : printed (F := F) i = task i := by
  unfold printed
  simp only [cc0__sc_body_eq_skeleton]
  unfold cc0__sc_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part1_skel, k0_part2_skel, k0_part3_skel, k0_part4_skel, k0_part5_skel, k0_part6_skel, k0_part7_skel, k0_part8_skel, k0_part9_skel, k0_part10_skel,
    k0_part11_skel, k0_part12_skel, k0_part13_skel, k0_part14_skel, k0_part15_skel, k0_part16_skel, k0_part17_skel, k0_part18_skel, k0_part19_skel, k0_part20_skel,
    k0_part21_skel, k0_part22_skel, k0_part23_skel, k0_part24_skel, bind_assoc, pure_bind]
  simp only [task, steps, step, arrive, refill, finish, bind_assoc, pure_bind, Nat.reduceAdd, Nat.reduceMod, Nat.reduceLT, Nat.reduceLeDiff, Nat.reduceSub,
    Nat.reduceEqDiff, if_true, if_false, reduceIte, Bool.not_true, Bool.not_false, and_true, true_and, and_false, false_and, and_self, OfNat.ofNat_ne_zero, OfNat.zero_ne_ofNat, OfNat.one_ne_ofNat]
  rfl

end

end Cert.Proof.PosAdd

end
-- ==== Proof.Setup.lean ====
/-
  The program as the launch theorem of the SparseCore library reads it, and the resource algebra of the proof: the
  rounds of the launch's handshakes beside the counters of the tasks' local transfers.
-/
module

public import proofs.«01_k».proof.Proof.Program
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import Idealize.SL.BI.BigOpNat

@[expose] public section

noncomputable section

namespace Cert.Proof.PosAdd

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The algebra of the proof's assertions. -/
abbrev MM (F : FTy → Type) := MT nD τ sig (HIx 1) (Elt F) ℕ UU ℕ

abbrev EH : Emb UH (MM F) := embL

/-- The task's thread: the vector subcore of device `d` at grid point `i`. -/
abbrev thr (d : Dev nD) (i : grid0.Coords) : Thread nD τ := V d ((i 0).castLE hcore0) ((i 1).castLE hsub0)

end Cert.Proof.PosAdd

end
-- ==== Proof.Memory.lean ====
/-
  What a task holds of memory and what one of its operations does to it: a memref held at known values, a transfer
  started and awaited, and the addition loop over a chunk buffer. Each is stated once, for any memref of a chunk.
-/
module

public import proofs.«01_k».proof.Proof.Setup

@[expose] public section

noncomputable section

namespace Cert.Proof.PosAdd

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

section

variable (d : Dev nD) (i : grid0.Coords)

/-- A chunk's values. -/
abbrev Chunk (F : FTy → Type) : Type := S32768.Idx → F .f32

/-- The memref `m` held whole by the task, reading the values `v`. -/
def holds {sp : Space} (m : Memref sig .scVector sp S32768 .f32) (v : Chunk F) : sProp (MM F) :=
  iprop(∃ f : Buf (Elt F) (m.view.loc (thr d i)), ⌜m.view.read (Elt F) f = v⌝ ∗ (m.view.loc (thr d i) ↦[m.view.set]{fullShare} f))

/-- The memref held at values not said. -/
def free {sp : Space} (m : Memref sig .scVector sp S32768 .f32) : sProp (MM F) := iprop(∃ v, holds d i m v)

/-- The task's semaphore `sem` at zero. -/
abbrev idle (sem : DmaSem sig) : sProp (MM F) := semVal (thr d i, .dma sem) 0

/-- A transfer of the values `v` from `src` to `dst` in flight on `sem`: its wait gives both memrefs back at `v`. -/
def flying {sp sp' : Space} (src : Memref sig .scVector sp S32768 .f32) (dst : Memref sig .scVector sp' S32768 .f32) (sem : DmaSem sig)
    (v : Chunk F) : sProp (MM F) :=
  Transfers.Flight countersEmb (thr d i) (.dma sem) (none : HIx 1) dst.view.dmaCredit iprop(holds d i dst v ∗ holds d i src v)

/-- What the task owes, with the waits it has recorded beyond `W` all its own. -/
def owing (O : CellTallies nD τ sig (HIx 1)) (W : Waits sig (HIx 1)) : sProp (MM F) :=
  iprop(∃ W', ⌜∀ p ∈ W', p ∈ W ∨ p.2 = none⌝ ∗ owes (thr d i) O W')

theorem holds_free {sp : Space} {m : Memref sig .scVector sp S32768 .f32} {v : Chunk F} : holds d i m v ⊢ free d i m := by
  unfold free; iintro H; iexists v; iexact H

variable [FloatOps F]

/-- The task's weakest precondition. -/
abbrev twp {α : Type} (t : TProg F i α) (Q : α → sProp (MM F)) : sProp (MM F) :=
  wp frame (wpE (defs₀ (F := F)) 𝒱₀ (thr d i) none) Set.univ t Q

theorem twp_pure {Q : PUnit → sProp (MM F)} : Q ⟨⟩ ⊢ twp d i (pure ⟨⟩) Q := by
  unfold twp
  change _ ⊢ wp frame _ _ (Prog.ret _) _
  rw [wp_ret]
  iintro H; imodintro; iexact H

/-- Starting a transfer: from the source at `v`, the destination and the idle semaphore, to the transfer in flight. -/
theorem twp_start {sp sp' : Space} {src : Memref sig .scVector sp S32768 .f32} {dst : Memref sig .scVector sp' S32768 .f32} {sem : DmaSem sig}
    {hs : src.view.WordExact} {hd : dst.view.WordExact} {hT} {v : Chunk F} {α : Type} {k : PUnit → TProg F i α} {Q : α → sProp (MM F)} :
    iprop(holds d i src v ∗ free d i dst ∗ idle d i sem)
      ⊢ iprop((flying d i src dst sem v -∗ twp d i (k ⟨⟩) Q) -∗ twp d i (start i src dst sem hs hd hT >>= k) Q) := by
  unfold holds free
  iintro ⟨⟨%f, %hf, Hs⟩, ⟨%w, Hd⟩, Hv⟩ Hk
  unfold holds
  icases Hd with ⟨%g, -, Hd⟩
  unfold twp start
  rw [Prog.bind_lift]
  iapply (Transfers.wp_dmaLocal countersEmb 𝒱₀ (thr d i) none (dst := dst) (src := src) (via := .same) (Sd := dst.view.set) (none : HIx 1) dst.view.dmaCredit rfl
    (View.dmaCredit_pos _ (by decide)) (Finset.Subset.refl _)) $$ [Hs Hd Hv]
  · isplitl [Hs]; · iexact Hs
    isplitl [Hd] <;> iassumption
  iintro Hf
  iapply Hk
  unfold flying
  iapply (Transfers.Flight_mono countersEmb (thr d i) ?_) $$ Hf
  iintro ⟨Hd, Hs⟩
  unfold holds
  isplitl [Hd]
  · iexists (dst.view.write (Elt F) g (ReadAs.same.apply (src.view.read (Elt F) f)) Finset.univ); isplitr
    · ipureintro; exact (View.read_write_univ _ _).trans hf
    · iexact Hd
  · iexists f; isplitr
    · ipureintro; exact hf
    · iexact Hs

/-- Awaiting a transfer in flight: both memrefs back, and the semaphore idle. -/
theorem twp_await {sp sp' : Space} {src : Memref sig .scVector sp S32768 .f32} {dst : Memref sig .scVector sp' S32768 .f32} {sem : DmaSem sig}
    {hs : src.view.WordExact} {hd : dst.view.WordExact} {v : Chunk F} {α : Type} {k : PUnit → TProg F i α} {Q : α → sProp (MM F)}
    {O : CellTallies nD τ sig (HIx 1)} {W : Waits sig (HIx 1)} :
    iprop(Transfers.MayWaits (thr d i) (none : HIx 1) O ∗ flying d i src dst sem v ∗ owing d i O W)
      ⊢ iprop((iprop(holds d i dst v ∗ holds d i src v ∗ idle d i sem ∗ owing d i O W) -∗ twp d i (k ⟨⟩) Q)
          -∗ twp d i (await i src dst sem hs hd >>= k) Q) := by
  unfold owing flying
  iintro ⟨#Hmw, Hf, %W', %hW', HO⟩ Hk
  unfold twp await
  rw [Prog.bind_lift]
  iapply (Transfers.wp_waitLocalO countersEmb 𝒱₀ (thr d i) none (dstw := dst) (none : HIx 1) rfl) $$ [Hf HO]
  · isplitl [Hf]; · iexact Hf
    isplitl [HO]; · iexact HO
    iapply (Transfers.MayWaits.elim (SemLoc.dma sem)); iexact Hmw
  iintro ⟨⟨Hd, Hs⟩, Hv, HO⟩
  iapply Hk
  isplitl [Hd]; · iexact Hd
  isplitl [Hs]; · iexact Hs
  isplitl [Hv]; · iexact Hv
  iexists (insert (SemLoc.dma sem, none) W'); isplitr
  · ipureintro; intro p hp
    rcases Finset.mem_insert.mp hp with rfl | hp
    · exact .inr rfl
    · exact hW' p hp
  · iexact HO

/-! ## The addition loop -/

/-- A chunk's values after the first `k` trips of the addition of `w`. -/
def added (k : ℕ) (v w : Chunk F) : Chunk F := fun j => if (j 0).val < 16 * k then FloatOps.addf (v j) (w j) else v j

/-- The whole sum. -/
def sumOf (v w : Chunk F) : Chunk F := fun j => FloatOps.addf (v j) (w j)

theorem added_zero (v w : Chunk F) : added 0 v w = v := by funext j; simp [added]
theorem added_all (v w : Chunk F) : added 2048 v w = sumOf v w := by
  funext j
  have hj : (j 0).val < 32768 := (j 0).isLt
  simp only [added, sumOf, if_pos (show (j 0).val < 16 * 2048 by omega)]

theorem trips_eq : k0_t1_loop.trips = 2048 := by decide

theorem mem_lane (k : Fin k0_t1_loop.trips) (j : S32768.Idx) : j ∈ (lane k).set ↔ 16 * k.val ≤ (j 0).val ∧ (j 0).val < 16 * k.val + 16 := by
  unfold lane
  rw [Rect.mem_set_unit, k0_off3_eq]
  constructor
  · intro h; exact h 0
  · intro h a
    obtain rfl : a = 0 := Subsingleton.elim _ _
    exact h

/-- What trip `k` stores over the buffer leaves the first `k + 1` trips' values. -/
theorem added_succ {sp : Space} (m : Memref sig .scVector sp S32768 .f32) (k : Fin k0_t1_loop.trips) (v w : Chunk F)
    (f : m.view.ty.Contents (Elt F)) (hf : m.view.read (Elt F) f = added k.val v w) :
    m.view.read (Elt F) ((m.access (lane k)).write (Elt F) f
        (k0_pay1 (m.view.readAt (Elt F) (lane k).toLoadRect f) (fun y => w ((lane k).emb y))) Finset.univ)
      = added (k.val + 1) v w := by
  funext j
  by_cases hj : j ∈ (lane k).set
  · obtain ⟨y, rfl⟩ := (lane k).exists_idx_of_mem hj
    refine (View.read_slice_write_emb (v := m.view) (lane k) f _ (Finset.mem_univ y)).trans ?_
    have hb : 16 * k.val ≤ ((lane k).emb y 0).val ∧ ((lane k).emb y 0).val < 16 * k.val + 16 := (mem_lane k _).mp hj
    have hv : m.view.readAt (Elt F) (lane k).toLoadRect f y = v ((lane k).emb y) := by
      rw [View.readAt_apply]
      refine (congrFun hf _).trans ?_
      show added k.val v w ((lane k).emb y) = _
      exact if_neg (by omega)
    show k0_pay1 _ _ y = _
    unfold k0_pay1
    simp only [shapeCast_self]
    show FloatOps.addf (m.view.readAt (Elt F) (lane k).toLoadRect f y) (w ((lane k).emb y)) = _
    rw [hv]
    show _ = added (k.val + 1) v w ((lane k).emb y)
    exact (if_pos (by omega)).symm
  · refine (View.read_slice_write_of_not_mem (v := m.view) (lane k) f _ Finset.univ (by rwa [Rect.map_emb_univ])).trans ?_
    rw [hf]
    have hb := (mem_lane k j).not.mp hj
    unfold added
    by_cases h : (j 0).val < 16 * k.val
    · rw [if_pos h, if_pos (by omega)]
    · rw [if_neg h, if_neg (by omega)]

/-- The addition loop's invariant before trip `k`. -/
def addInv (m : Memref sig .scVector .vmem S32768 .f32) (v w : Chunk F) (k : ℕ) (_ : Unit) : sProp (MM F) :=
  iprop(holds d i m (added k v w) ∗ holds d i pv w)

theorem twp_addTrip (m : Memref sig .scVector .vmem S32768 .f32) (v w : Chunk F) (k : Fin k0_t1_loop.trips) (u : Unit) :
    addInv d i m v w k.val u ⊢ twp d i (addTrip i m k u) (addInv d i m v w (k.val + 1)) := by
  have hsub {sp : Space} (m : Memref sig .scVector sp S32768 .f32) : m.view.setOn (lane k).set ⊆ m.view.set :=
    Finset.map_subset_map.mpr (Finset.subset_univ _)
  have hsub' : (m.access (lane k)).setOn Finset.univ ⊆ m.view.set := View.set_slice_subset (v := m.view) (lane k)
  unfold addInv holds
  iintro ⟨⟨%f, %hf, Hm⟩, ⟨%g, %hg, Hp⟩⟩
  unfold twp addTrip
  simp only [Prog.bind_lift]
  iapply (wp_load 𝒱₀ (thr d i) none Set.univ (m := m) (S := m.view.set) (hsub m)) $$ Hm; iintro Hm
  iapply (wp_load 𝒱₀ (thr d i) none Set.univ (m := pv) (S := (pv : Memref sig .scVector .vmem S32768 .f32).view.set) (hsub pv)) $$ Hp; iintro Hp
  iapply (wp_load 𝒱₀ (thr d i) none Set.univ (m := m) (S := m.view.set) (hsub m)) $$ Hm; iintro Hm
  iapply (wp_store 𝒱₀ (thr d i) none Set.univ (m := m) (r := lane k) (Mk := Finset.univ) (S := m.view.set) hsub') $$ Hm; iintro Hm
  rw [wp_ret]; imodintro
  isplitl [Hm]
  · iexists ((m.access (lane k)).write (Elt F) f (k0_pay1 (m.view.readAt (Elt F) (lane k).toLoadRect f)
      ((pv : Memref sig .scVector .vmem S32768 .f32).view.readAt (Elt F) (lane k).toLoadRect g)) Finset.univ); isplitr
    · ipureintro
      rw [show (pv : Memref sig .scVector .vmem S32768 .f32).view.readAt (Elt F) (lane k).toLoadRect g = fun y => w ((lane k).emb y) from
        funext fun y => congrFun hg _]
      exact added_succ m k v w f hf
    · iexact Hm
  · iexists g; isplitr
    · ipureintro; exact hg
    · iexact Hp

/-- The addition loop: the buffer's values become their sum with the positions'. -/
theorem twp_addLoop {m : Memref sig .scVector .vmem S32768 .f32} {v w : Chunk F} {α : Type} {kk : PUnit → TProg F i α} {Q : α → sProp (MM F)} :
    iprop(holds d i m v ∗ holds d i pv w)
      ⊢ iprop((iprop(holds d i m (sumOf v w) ∗ holds d i pv w) -∗ twp d i (kk ⟨⟩) Q) -∗ twp d i (addLoop i m >>= kk) Q) := by
  iintro H Hk
  unfold twp addLoop Scf.Loop.for
  iapply (Scf.wp_for_bind frame (wpE (defs₀ (F := F)) 𝒱₀ (thr d i) none) Set.univ _ _ _ k0_t1_ok ⟨⟩ (addTrip i m) (addInv d i m v w)
    (fun k u => twp_addTrip d i m v w k u)) $$ [H]
  · unfold addInv; rw [added_zero]; iexact H
  iintro %_ H
  iapply Hk
  unfold addInv
  rw [show Scf.trips k0_t1_loop.lb k0_t1_loop.ub k0_t1_loop.st = 2048 from trips_eq, added_all]
  iexact H

end

end Cert.Proof.PosAdd

end
-- ==== Proof.Steps.lean ====
/-
  The task, step by step. What the task holds before a step is one assertion in the step's number and its buffer; a
  step's three parts are proved once each, for every step, and the task is the steps in turn.
-/
module

public import proofs.«01_k».proof.Proof.Memory

@[expose] public section

noncomputable section

namespace Cert.Proof.PosAdd

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (d : Dev nD) (i : grid0.Coords) (X : ℕ → Chunk F) (P : Fin 8 → Chunk F)
  (O : CellTallies nD τ sig (HIx 1)) (W : Waits sig (HIx 1))

/-- The result's chunk of step `s`. -/
abbrev Z (s : ℕ) : Chunk F := sumOf (X s) (P (chk s))

/-- The chunks of `x` of the steps `s`. -/
abbrev xs (s : Finset ℕ) : sProp (MM F) := bigSep s fun t => holds d i (xSl i t) (X t)
/-- The position chunks `s`. -/
abbrev ps (s : Finset (Fin 8)) : sProp (MM F) := bigSep s fun c => holds d i (posSl i c) (P c)
/-- The result's chunks of the steps `s`, not yet written, and those written. -/
abbrev todo (s : Finset ℕ) : sProp (MM F) := bigSep s fun t => free d i (outSl i t)
abbrev done (s : Finset ℕ) : sProp (MM F) := bigSep s fun t => holds d i (outSl i t) (Z X P t)

/-- Chunk `s` of `x` on its way into its buffer. -/
abbrev fetchingX (s : ℕ) (p : Bool) : sProp (MM F) := flying d i (xSl i s) (xv p) (sx p) (X s)
/-- Chunk `s` of the result on its way out of its buffer. -/
abbrev writing (s : ℕ) (p : Bool) : sProp (MM F) := flying d i (xv p) (outSl i s) (so p) (Z X P s)
/-- Position chunk `c` on its way into the buffer of positions, beside the other position chunks. -/
def fetchingPos (c : Fin 8) : sProp (MM F) := iprop(flying d i (posSl i c) pv sp (P c) ∗ ps d i P (Finset.univ.erase c))
/-- The buffer of positions at chunk `c`, beside all position chunks. -/
def loadedPos (c : Fin 8) : sProp (MM F) := iprop(holds d i pv (P c) ∗ idle d i sp ∗ ps d i P Finset.univ)

/-- The positions before step `s`: on their way at a chunk's first batch, and there already at the others. -/
def posBefore (s : ℕ) : sProp (MM F) := if s % 4 = 0 ∧ s < 32 then fetchingPos d i P (chk s) else loadedPos d i P (chk (s - 1))
/-- The other buffer before step `s`: on its way out with the step before's sums, or untouched at the first step. -/
def otherBefore (s : ℕ) (p : Bool) : sProp (MM F) :=
  if 1 ≤ s then writing d i X P (s - 1) (!p) else iprop(free d i (xv (!p)) ∗ idle d i (so (!p)))

theorem posBefore_first {s : ℕ} (h : s % 4 = 0) (hs : s < 32) :
    posBefore d i P s = iprop(flying d i (posSl i (chk s)) pv sp (P (chk s)) ∗ ps d i P (Finset.univ.erase (chk s))) := if_pos ⟨h, hs⟩

theorem posBefore_later {s : ℕ} (h : ¬ s % 4 = 0) : posBefore d i P s = loadedPos d i P (chk s) := by
  unfold posBefore
  rw [if_neg (fun hh => h hh.1), show chk (s - 1) = chk s from Fin.ext (by show (s - 1) / 4 % 8 = s / 4 % 8; omega)]

theorem posBefore_last : posBefore d i P 32 = iprop(holds d i pv (P (chk 31)) ∗ idle d i sp ∗ ps d i P Finset.univ) := if_neg (by omega)

theorem otherBefore_first (p : Bool) : otherBefore d i X P 0 p = iprop(free d i (xv (!p)) ∗ idle d i (so (!p))) := if_neg (by omega)

theorem otherBefore_later {s : ℕ} (h : 1 ≤ s) (p : Bool) : otherBefore d i X P s p = writing d i X P (s - 1) (!p) := if_pos h

/-- One position chunk taken from them all. -/
theorem ps_take (c : Fin 8) : ps d i P Finset.univ = iprop(holds d i (posSl i c) (P c) ∗ ps d i P (Finset.univ.erase c)) :=
  SparseCore.bigSep_erase' (Finset.mem_univ _)

/-- One chunk of `x` taken from them all. -/
theorem xs_take {s : ℕ} (hs : s < 32) : xs d i X (Finset.range 32) = iprop(holds d i (xSl i s) (X s) ∗ xs d i X ((Finset.range 32).erase s)) :=
  SparseCore.bigSep_erase' (Finset.mem_range.mpr hs)

/-- Everything the task holds before step `s` on buffer `p`. -/
def before (s : ℕ) (p : Bool) : sProp (MM F) :=
  iprop(fetchingX d i X s p ∗ idle d i (sx (!p)) ∗ otherBefore d i X P s p ∗ idle d i (so p) ∗ posBefore d i P s
    ∗ xs d i X ((Finset.range 32).erase s) ∗ done d i X P (Finset.range (s - 1)) ∗ todo d i (Finset.Ico s 32) ∗ owing d i O W)

/-- The waits a step begins with. -/
theorem twp_arrive {s : ℕ} {p : Bool} (hs : s < 32) {α : Type} {k : PUnit → TProg F i α} {Q : α → sProp (MM F)} :
    iprop(Transfers.MayWaits (thr d i) (none : HIx 1) O ∗ fetchingX d i X s p ∗ posBefore d i P s ∗ xs d i X ((Finset.range 32).erase s) ∗ owing d i O W)
      ⊢ iprop((iprop(holds d i (xv p) (X s) ∗ idle d i (sx p) ∗ loadedPos d i P (chk s) ∗ xs d i X (Finset.range 32) ∗ owing d i O W) -∗ twp d i (k ⟨⟩) Q)
          -∗ twp d i (arrive i s p >>= k) Q) := by
  rw [xs_take d i X hs]
  iintro ⟨#Hmw, Hx, Hp, Hxs, HO⟩ Hk
  unfold arrive awaitX
  rw [bind_assoc]
  iapply (twp_await d i (O := O) (W := W)) $$ [Hx HO]
  · isplitr; · iexact Hmw
    isplitl [Hx] <;> iassumption
  iintro ⟨Hx, Hs, Hsem, HO⟩
  by_cases h : s % 4 = 0
  · rw [if_pos h]
    unfold awaitPos
    icases (Entails.of_eq (posBefore_first d i P h hs)) $$ Hp with ⟨Hp, Hps⟩
    iapply (twp_await d i (O := O) (W := W)) $$ [Hp HO]
    · isplitr; · iexact Hmw
      isplitl [Hp] <;> iassumption
    iintro ⟨Hp, Hpc, Hpsem, HO⟩
    iapply Hk
    isplitl [Hx]; · iexact Hx
    isplitl [Hsem]; · iexact Hsem
    isplitl [Hp Hpsem Hpc Hps]
    · unfold loadedPos
      isplitl [Hp]; · iexact Hp
      isplitl [Hpsem]; · iexact Hpsem
      rw [ps_take d i P (chk s)]
      isplitl [Hpc] <;> iassumption
    isplitl [Hs Hxs]
    · isplitl [Hs] <;> iassumption
    iexact HO
  · rw [if_neg h, pure_bind]
    ihave Hp := (Entails.of_eq (posBefore_later d i P h)) $$ Hp
    iapply Hk
    isplitl [Hx]; · iexact Hx
    isplitl [Hsem]; · iexact Hsem
    isplitl [Hp]; · iexact Hp
    isplitl [Hs Hxs]
    · isplitl [Hs] <;> iassumption
    iexact HO

/-- The other buffer emptied and refilled. -/
theorem twp_refill {s : ℕ} {p : Bool} (hs : s + 1 < 32) {α : Type} {k : PUnit → TProg F i α} {Q : α → sProp (MM F)} :
    iprop(Transfers.MayWaits (thr d i) (none : HIx 1) O ∗ otherBefore d i X P s p ∗ idle d i (sx (!p)) ∗ xs d i X (Finset.range 32)
        ∗ done d i X P (Finset.range (s - 1)) ∗ owing d i O W)
      ⊢ iprop((iprop(fetchingX d i X (s + 1) (!p) ∗ idle d i (so (!p)) ∗ xs d i X ((Finset.range 32).erase (s + 1))
            ∗ done d i X P (Finset.range s) ∗ owing d i O W) -∗ twp d i (k ⟨⟩) Q)
          -∗ twp d i (refill i s p >>= k) Q) := by
  rw [xs_take d i X hs]
  iintro ⟨#Hmw, Hb, Hsx, ⟨Hx, Hxs⟩, Hd, HO⟩ Hk
  unfold refill
  rw [bind_assoc]
  by_cases h : 1 ≤ s
  · rw [if_pos h]
    unfold awaitOut
    ihave Hb := (Entails.of_eq (otherBefore_later d i X P h p)) $$ Hb
    iapply (twp_await d i (O := O) (W := W) (v := Z X P (s - 1))) $$ [Hb HO]
    · isplitr; · iexact Hmw
      isplitl [Hb] <;> iassumption
    iintro ⟨Ho, Hb, Hso, HO⟩
    unfold startX
    ihave Hb := (holds_free d i) $$ Hb
    iapply (twp_start d i) $$ [Hx Hb Hsx]
    · isplitl [Hx]; · iexact Hx
      isplitl [Hb] <;> iassumption
    iintro Hf
    iapply Hk
    isplitl [Hf]; · iexact Hf
    isplitl [Hso]; · iexact Hso
    isplitl [Hxs]; · iexact Hxs
    isplitl [Ho Hd]
    · unfold done
      obtain ⟨r, rfl⟩ : ∃ r, s = r + 1 := ⟨s - 1, by omega⟩
      rw [bigSep_range_succ]
      isplitl [Ho]; · iexact Ho
      iexact Hd
    iexact HO
  · obtain rfl : s = 0 := by omega
    rw [if_neg h, pure_bind]
    unfold startX
    icases (Entails.of_eq (otherBefore_first d i X P p)) $$ Hb with ⟨Hb, Hso⟩
    iapply (twp_start d i) $$ [Hx Hb Hsx]
    · isplitl [Hx]; · iexact Hx
      isplitl [Hb] <;> iassumption
    iintro Hf
    iapply Hk
    isplitl [Hf]; · iexact Hf
    isplitl [Hso]; · iexact Hso
    isplitl [Hxs]; · iexact Hxs
    isplitl [Hd] <;> iassumption

/-- The addition, the write-back's start, and the next positions' fetch where a chunk ends. -/
theorem twp_finish {s : ℕ} {p : Bool} (hs : s < 32) {α : Type} {k : PUnit → TProg F i α} {Q : α → sProp (MM F)} :
    iprop(holds d i (xv p) (X s) ∗ loadedPos d i P (chk s) ∗ idle d i (so p) ∗ todo d i (Finset.Ico s 32))
      ⊢ iprop((iprop(writing d i X P s p ∗ posBefore d i P (s + 1) ∗ todo d i (Finset.Ico (s + 1) 32)) -∗ twp d i (k ⟨⟩) Q)
          -∗ twp d i (finish i s p >>= k) Q) := by
  unfold todo
  rw [← Finset.insert_Ico_add_one_left_eq_Ico hs, SparseCore.bigSep_insert' (by simp)]
  unfold finish
  iintro ⟨Hx, Hp, Hso, Ho, Hos⟩ Hk
  icases (Entails.of_eq (show loadedPos d i P (chk s) = iprop(holds d i pv (P (chk s)) ∗ idle d i sp ∗ ps d i P Finset.univ) from rfl)) $$ Hp with ⟨Hp, Hsp, Hps⟩
  rw [bind_assoc]
  iapply (twp_addLoop d i) $$ [Hx Hp]
  · isplitl [Hx] <;> iassumption
  iintro ⟨Hx, Hp⟩
  rw [bind_assoc]
  unfold startOut
  iapply (twp_start d i) $$ [Hx Ho Hso]
  · isplitl [Hx]; · iexact Hx
    isplitl [Ho] <;> iassumption
  iintro Hf
  unfold posBefore
  by_cases h : s % 4 = 3 ∧ s + 1 < 32
  · rw [if_pos h, if_pos (⟨by omega, h.2⟩ : (s + 1) % 4 = 0 ∧ s + 1 < 32)]
    unfold startPos
    icases (Entails.of_eq (ps_take d i P (chk (s + 1)))) $$ Hps with ⟨Hpc, Hps⟩
    ihave Hp := (holds_free d i) $$ Hp
    iapply (twp_start d i) $$ [Hpc Hp Hsp]
    · isplitl [Hpc]; · iexact Hpc
      isplitl [Hp] <;> iassumption
    iintro Hpf
    iapply Hk
    isplitl [Hf]; · iexact Hf
    isplitl [Hpf Hps]
    · unfold fetchingPos; isplitl [Hpf] <;> iassumption
    iexact Hos
  · rw [if_neg h, if_neg (fun hh => h ⟨by omega, hh.2⟩), pure_bind, Nat.add_sub_cancel]
    iapply Hk
    isplitl [Hf]; · iexact Hf
    isplitl [Hp Hsp Hps]
    · unfold loadedPos
      isplitl [Hp]; · iexact Hp
      isplitl [Hsp] <;> iassumption
    iexact Hos

/-- One step. -/
theorem twp_step {s : ℕ} {p : Bool} (hs : s + 1 < 32) {α : Type} {k : PUnit → TProg F i α} {Q : α → sProp (MM F)} :
    iprop(Transfers.MayWaits (thr d i) (none : HIx 1) O ∗ before d i X P O W s p)
      ⊢ iprop((before d i X P O W (s + 1) (!p) -∗ twp d i (k ⟨⟩) Q) -∗ twp d i (step i s p >>= k) Q) := by
  unfold before
  iintro ⟨#Hmw, Hx, Hsx, Hb, Hso, Hp, Hxs, Hd, Ht, HO⟩ Hk
  unfold step
  rw [bind_assoc]
  iapply (twp_arrive d i X P O W (s := s) (p := p) (by omega)) $$ [Hx Hp Hxs HO]
  · isplitr; · iexact Hmw
    isplitl [Hx]; · iexact Hx
    isplitl [Hp]; · iexact Hp
    isplitl [Hxs] <;> iassumption
  iintro ⟨Hx, Hsx', Hp, Hxs, HO⟩
  rw [bind_assoc]
  iapply (twp_refill d i X P O W (s := s) (p := p) hs) $$ [Hb Hsx Hxs Hd HO]
  · isplitr; · iexact Hmw
    isplitl [Hb]; · iexact Hb
    isplitl [Hsx]; · iexact Hsx
    isplitl [Hxs]; · iexact Hxs
    isplitl [Hd] <;> iassumption
  iintro ⟨Hf, Hso', Hxs, Hd, HO⟩
  iapply (twp_finish d i X P (s := s) (p := p) (by omega)) $$ [Hx Hp Hso Ht]
  · isplitl [Hx]; · iexact Hx
    isplitl [Hp]; · iexact Hp
    isplitl [Hso] <;> iassumption
  iintro ⟨Hw, Hp, Ht⟩
  iapply Hk
  isplitl [Hf]; · iexact Hf
  isplitl [Hsx']; · rw [Bool.not_not]; iexact Hsx'
  isplitl [Hw]
  · unfold otherBefore
    rw [if_pos (by omega), Nat.add_sub_cancel, Bool.not_not]
    iexact Hw
  isplitl [Hso']; · iexact Hso'
  isplitl [Hp]; · iexact Hp
  isplitl [Hxs]; · iexact Hxs
  isplitl [Hd]; · rw [Nat.add_sub_cancel]; iexact Hd
  isplitl [Ht] <;> iassumption

/-- `n` steps in turn. -/
theorem twp_steps (n : ℕ) : ∀ {s : ℕ} {p : Bool} (_ : s + n < 32) {α : Type} {k : PUnit → TProg F i α} {Q : α → sProp (MM F)},
    iprop(Transfers.MayWaits (thr d i) (none : HIx 1) O ∗ before d i X P O W s p)
      ⊢ iprop((before d i X P O W (s + n) (Bool.not^[n] p) -∗ twp d i (k ⟨⟩) Q) -∗ twp d i (steps i n s p >>= k) Q) := by
  induction n with
  | zero =>
    intro s p _ α k Q
    unfold steps
    rw [pure_bind]
    iintro ⟨-, H⟩ Hk
    iapply Hk; iexact H
  | succ n ih =>
    intro s p hs α k Q
    unfold steps
    rw [bind_assoc]
    iintro ⟨#Hmw, H⟩ Hk
    iapply (twp_step d i X P O W (by omega)) $$ [H]
    · isplitr
      · iexact Hmw
      · iexact H
    iintro H
    iapply (ih (by omega)) $$ [H]
    · isplitr
      · iexact Hmw
      · iexact H
    rw [show s + 1 + n = s + (n + 1) by omega]
    iexact Hk

/-- What the task holds of its buffers and semaphores, at no values said. -/
def scratch : sProp (MM F) :=
  iprop(free d i (xv false) ∗ free d i (xv true) ∗ free d i pv
    ∗ idle d i (sx false) ∗ idle d i (sx true) ∗ idle d i (so false) ∗ idle d i (so true) ∗ idle d i sp)

/-- The whole task: the result's chunks end at the sums, and everything else is as it was. -/
theorem twp_task :
    iprop(Transfers.MayWaits (thr d i) (none : HIx 1) O ∗ scratch (F := F) d i ∗ xs d i X (Finset.range 32) ∗ ps d i P Finset.univ
        ∗ todo d i (Finset.range 32) ∗ owing d i O W)
      ⊢ twp d i (task i) fun _ => iprop(scratch (F := F) d i ∗ xs d i X (Finset.range 32) ∗ ps d i P Finset.univ
        ∗ done d i X P (Finset.range 32) ∗ owing d i O W) := by
  unfold scratch
  iintro ⟨#Hmw, ⟨Ha, Hb, Hp, Hxa, Hxb, Hoa, Hob, Hsp⟩, Hxs, Hps, Ht, HO⟩
  unfold task startPos
  icases (Entails.of_eq (ps_take d i P 0)) $$ Hps with ⟨Hpc, Hps⟩
  iapply (twp_start d i) $$ [Hpc Hp Hsp]
  · isplitl [Hpc]; · iexact Hpc
    isplitl [Hp] <;> iassumption
  iintro Hp
  unfold startX
  icases (Entails.of_eq (xs_take d i X (show 0 < 32 by omega))) $$ Hxs with ⟨Hx, Hxs⟩
  iapply (twp_start d i) $$ [Hx Ha Hxa]
  · isplitl [Hx]; · iexact Hx
    isplitl [Ha] <;> iassumption
  iintro Hx
  iapply (twp_steps d i X P O W 31 (s := 0) (p := false) (by omega)) $$ [Hx Hxb Hb Hob Hoa Hp Hps Hxs Ht HO]
  · isplitr; · iexact Hmw
    unfold before
    isplitl [Hx]; · iexact Hx
    isplitl [Hxb]; · iexact Hxb
    isplitl [Hb Hob]
    · unfold otherBefore; rw [if_neg (by omega)]
      isplitl [Hb]; · iexact Hb
      iexact Hob
    isplitl [Hoa]; · iexact Hoa
    isplitl [Hp Hps]
    · unfold posBefore; rw [if_pos (by omega)]; unfold fetchingPos
      isplitl [Hp]; · iexact Hp
      iexact Hps
    isplitl [Hxs]; · iexact Hxs
    isplitr
    · unfold done; rw [show Finset.range (0 - 1) = ∅ from rfl, bigSep_empty]; iempintro
    isplitl [Ht]
    · rw [Finset.range_eq_Ico]; iexact Ht
    iexact HO
  rw [show Bool.not^[31] false = true from rfl, Nat.zero_add]
  unfold before
  iintro ⟨Hx, Hxa, Hb, Hso, Hp, Hxs, Hd, Ht, HO⟩
  iapply (twp_arrive d i X P O W (s := 31) (p := true) (by omega)) $$ [Hx Hp Hxs HO]
  · isplitr; · iexact Hmw
    isplitl [Hx]; · iexact Hx
    isplitl [Hp]; · iexact Hp
    isplitl [Hxs] <;> iassumption
  iintro ⟨Hx, Hxb, Hp, Hxs, HO⟩
  iapply (twp_finish d i X P (s := 31) (p := true) (by omega)) $$ [Hx Hp Hso Ht]
  · isplitl [Hx]; · iexact Hx
    isplitl [Hp]; · iexact Hp
    isplitl [Hso] <;> iassumption
  iintro ⟨Hw, Hp, -⟩
  unfold awaitOut
  ihave Hb := (Entails.of_eq (otherBefore_later d i X P (show 1 ≤ 31 by omega) true)) $$ Hb
  iapply (twp_await d i (O := O) (W := W) (v := Z X P 30)) $$ [Hb HO]
  · isplitr; · iexact Hmw
    isplitl [Hb]
    · iexact Hb
    · iexact HO
  iintro ⟨Hd30, Hb, Hso, HO⟩
  rw [← bind_pure (await i (xv true) (outSl i 31) (so true) _ _)]
  iapply (twp_await d i (O := O) (W := W)) $$ [Hw HO]
  · isplitr; · iexact Hmw
    isplitl [Hw]
    · iexact Hw
    · iexact HO
  iintro ⟨Hd31, Hw, Hso', HO⟩
  iapply (twp_pure d i)
  icases (Entails.of_eq (posBefore_last d i P)) $$ Hp with ⟨Hp, Hsp, Hps⟩
  isplitl [Hb Hw Hp Hxa Hxb Hso Hso' Hsp]
  · isplitl [Hb]; · iapply (holds_free d i) $$ Hb
    isplitl [Hw]; · iapply (holds_free d i) $$ Hw
    isplitl [Hp]; · iapply (holds_free d i) $$ Hp
    isplitl [Hxa]; · iexact Hxa
    isplitl [Hxb]; · iexact Hxb
    isplitl [Hso]; · iexact Hso
    isplitl [Hso'] <;> iassumption
  isplitl [Hxs]; · iexact Hxs
  isplitl [Hps]; · iexact Hps
  isplitl [Hd Hd30 Hd31]
  · unfold done
    rw [bigSep_range_succ 31, bigSep_range_succ 30]
    isplitl [Hd31]; · iexact Hd31
    isplitl [Hd30] <;> iassumption
  iexact HO

end

end Cert.Proof.PosAdd

end
-- ==== Proof.Tiles.lean ====
/-
  The tiles' shares of the flat arrays. Tile `2 s + c` works on the same stretch of 262144 positions in each of the four
  batches: its share of the flat `x` and of the flat result is those four stretches, thirty-two chunks in all; its share
  of the flat positions is the one stretch, eight chunks. The tiles' shares make up the arrays.
-/
module

public import proofs.«01_k».proof.Proof.Steps

@[expose] public section

noncomputable section

namespace Cert.Proof.PosAdd

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The flat arrays -/

abbrev xLoc (d : Dev nD) : Loc nD τ sig := (SparseCore.T d).loc main_v0
abbrev posLoc (d : Dev nD) : Loc nD τ sig := (SparseCore.T d).loc main_v1
abbrev outLoc (d : Dev nD) : Loc nD τ sig := (SparseCore.T d).loc main_v2

/-- The position an index of the flat `x` falls on: its index within its batch. -/
def posOf (j : S33554432.Idx) : S8388608.Idx := fun | 0 => (⟨(j 0).val % 8388608, Nat.mod_lt _ (by decide)⟩ : Fin 8388608)

/-- The flat result of the flat `x` and positions: each element the sum of `x`'s and its position's. -/
def flatSum [FloatOps F] (fx : S33554432.Idx → F .f32) (fp : S8388608.Idx → F .f32) : S33554432.Idx → F .f32 :=
  fun j => FloatOps.addf (fx j) (fp (posOf j))

/-! ## Shares and chunks -/

section

variable (i : grid0.Coords)

/-- The tile's number. -/
abbrev num : ℕ := 2 * (i 1).val + (i 0).val

theorem i0_lt : (i 0).val < 2 := (i 0).isLt
theorem i1_lt : (i 1).val < 16 := (i 1).isLt

/-- The tile's share of the flat `x` and of the flat result, and of the flat positions. -/
def xSet : Finset S33554432.Idx := Finset.univ.filter fun j => (j 0).val % 8388608 / 262144 = num i
def posSet : Finset S8388608.Idx := Finset.univ.filter fun j => (j 0).val / 262144 = num i

/-- Where the chunk of step `s` begins in the flat `x`, and position chunk `c` in the flat positions. -/
abbrev xAt (s : ℕ) : ℕ := 8388608 * (s % 4) + 524288 * (i 1).val + 262144 * (i 0).val + 32768 * (s / 4 % 8)
abbrev posAt (c : Fin 8) : ℕ := 524288 * (i 1).val + 262144 * (i 0).val + 32768 * c.val

theorem mem_xBox (s : ℕ) (j : S33554432.Idx) : j ∈ (xBox i s).set ↔ xAt i s ≤ (j 0).val ∧ (j 0).val < xAt i s + 32768 := by
  unfold xBox
  rw [Rect.mem_set_unit, k0_off2_eq i (bat s) (chk s)]
  constructor
  · intro h; exact h 0
  · intro h a
    obtain rfl : a = 0 := Subsingleton.elim _ _
    exact h

theorem mem_posBox (c : Fin 8) (j : S8388608.Idx) : j ∈ (posBox i c).set ↔ posAt i c ≤ (j 0).val ∧ (j 0).val < posAt i c + 32768 := by
  unfold posBox
  rw [Rect.mem_set_unit, k0_off1_eq i c]
  constructor
  · intro h; exact h 0
  · intro h a
    obtain rfl : a = 0 := Subsingleton.elim _ _
    exact h

theorem xBox_emb (s : ℕ) (y : S32768.Idx) : ((xBox i s).emb y 0).val = xAt i s + (y 0).val := by
  rw [Rect.emb_apply]
  show k0_off2 i _ _ 0 + 1 * (y 0).val = _
  rw [k0_off2_eq i (bat s) (chk s), one_mul]
  rfl

theorem posBox_emb (c : Fin 8) (y : S32768.Idx) : ((posBox i c).emb y 0).val = posAt i c + (y 0).val := by
  rw [Rect.emb_apply]
  show k0_off1 i _ 0 + 1 * (y 0).val = _
  rw [k0_off1_eq i c, one_mul]
  rfl

/-- An index of step `s`'s chunk tells its batch, its tile and its chunk. -/
theorem xAt_decode {s n : ℕ} (h : xAt i s ≤ n ∧ n < xAt i s + 32768) :
    n / 8388608 = s % 4 ∧ n % 8388608 / 262144 = num i ∧ n % 8388608 % 262144 / 32768 = s / 4 % 8 := by
  have h0 := i0_lt i; have h1 := i1_lt i
  unfold xAt at h
  unfold num
  generalize (i 0).val = a at *
  generalize (i 1).val = b at *
  obtain ⟨q, hq⟩ : ∃ q, q = s % 4 := ⟨_, rfl⟩
  obtain ⟨c, hc⟩ : ∃ c, c = s / 4 % 8 := ⟨_, rfl⟩
  have hq4 : q < 4 := by omega
  have hc8 : c < 8 := by omega
  rw [← hq, ← hc] at h ⊢
  clear hq hc
  obtain ⟨r, rfl⟩ : ∃ r, n = 8388608 * q + 524288 * b + 262144 * a + 32768 * c + r := ⟨_, (Nat.add_sub_of_le h.1).symm⟩
  have hr : r < 32768 := by omega
  clear h
  have e1 : (8388608 * q + 524288 * b + 262144 * a + 32768 * c + r) % 8388608 = 524288 * b + 262144 * a + 32768 * c + r := by omega
  have e2 : (524288 * b + 262144 * a + 32768 * c + r) % 262144 = 32768 * c + r := by omega
  refine ⟨by omega, ?_, ?_⟩
  · rw [e1]; omega
  · rw [e1, e2]; omega

theorem xBox_disjoint : ∀ s ∈ Finset.range 32, ∀ t ∈ Finset.range 32, s ≠ t → Disjoint (xBox i s).set (xBox i t).set := by
  intro s hs t ht hst
  rw [Finset.mem_range] at hs ht
  refine Finset.disjoint_left.mpr fun j hj hj' => ?_
  rw [mem_xBox] at hj hj'
  have e := xAt_decode i hj
  have e' := xAt_decode i hj'
  omega

theorem posBox_disjoint : ∀ s ∈ (Finset.univ : Finset (Fin 8)), ∀ t ∈ (Finset.univ : Finset (Fin 8)), s ≠ t → Disjoint (posBox i s).set (posBox i t).set := by
  intro s _ t _ hst
  have hst : s.val ≠ t.val := fun h => hst (Fin.ext h)
  refine Finset.disjoint_left.mpr fun j hj hj' => ?_
  rw [mem_posBox] at hj hj'
  unfold posAt at hj hj'
  omega

theorem xBox_cover : (Finset.range 32).biUnion (fun s => (xBox i s).set) = xSet i := by
  ext j
  have hj : (j 0).val < 33554432 := (j 0).isLt
  simp only [Finset.mem_biUnion, Finset.mem_range, xSet, Finset.mem_filter, Finset.mem_univ, true_and, mem_xBox]
  constructor
  · rintro ⟨s, hs, hb⟩; exact (xAt_decode i hb).2.1
  · intro h
    unfold num at h
    generalize (j 0).val = n at *
    obtain ⟨q, hq⟩ : ∃ q, q = n / 8388608 := ⟨_, rfl⟩
    obtain ⟨c, hc⟩ : ∃ c, c = n % 8388608 % 262144 / 32768 := ⟨_, rfl⟩
    have hc8 : c < 8 := by omega
    have hq4 : q < 4 := by omega
    refine ⟨4 * c + q, by omega, ?_⟩
    unfold xAt
    rw [show (4 * c + q) % 4 = q by omega, show (4 * c + q) / 4 = c by omega, Nat.mod_eq_of_lt hc8]
    omega

theorem posBox_cover : (Finset.univ : Finset (Fin 8)).biUnion (fun c => (posBox i c).set) = posSet i := by
  ext j
  have hj : (j 0).val < 8388608 := (j 0).isLt
  have h0 := i0_lt i; have h1 := i1_lt i
  simp only [Finset.mem_biUnion, Finset.mem_univ, posSet, Finset.mem_filter, true_and, mem_posBox]
  unfold posAt num
  constructor
  · rintro ⟨c, hb⟩; have := c.isLt; omega
  · intro h
    refine ⟨⟨(j 0).val % 262144 / 32768, by omega⟩, ?_⟩
    show _ + 32768 * ((j 0).val % 262144 / 32768) ≤ _ ∧ _ < _ + 32768 * ((j 0).val % 262144 / 32768) + 32768
    omega

/-- A chunk's element and its position: chunk `s` of the flat `x` falls on position chunk `chk s`. -/
theorem posOf_xBox (s : ℕ) (y : S32768.Idx) : posOf ((xBox i s).emb y) = (posBox i (chk s)).emb y := by
  funext a
  obtain rfl : a = 0 := Subsingleton.elim _ _
  refine Fin.ext (show ((xBox i s).emb y 0).val % 8388608 = ((posBox i (chk s)).emb y 0).val from ?_)
  rw [xBox_emb, posBox_emb]
  have hy : (y 0).val < 32768 := (y 0).isLt
  have h0 := i0_lt i; have h1 := i1_lt i
  show (8388608 * (s % 4) + 524288 * (i 1).val + 262144 * (i 0).val + 32768 * (s / 4 % 8) + (y 0).val) % 8388608
    = 524288 * (i 1).val + 262144 * (i 0).val + 32768 * (s / 4 % 8) + (y 0).val
  omega

end

/-! ## The tiles -/

/-- The tile of SparseCore `c` and vector subcore `s`. -/
def tileAt (c : Fin (grid0.bound 0)) (s : Fin (grid0.bound 1)) : grid0.Coords :=
  fun | 0 => c | 1 => s | ⟨_ + 2, h⟩ => absurd h (Nat.not_lt.2 (Nat.le_add_left _ _))

theorem xSet_disjoint : ∀ t ∈ (Finset.univ : Finset (Fin 2 × Fin 16)), ∀ t' ∈ (Finset.univ : Finset (Fin 2 × Fin 16)), t ≠ t' →
    Disjoint (xSet (tileAt t.1 t.2)) (xSet (tileAt t'.1 t'.2)) := by
  rintro ⟨c, s⟩ _ ⟨c', s'⟩ _ h
  refine Finset.disjoint_left.mpr fun j hj hj' => ?_
  have e : (j 0).val % 8388608 / 262144 = 2 * s.val + c.val := (Finset.mem_filter.mp hj).2
  have e' : (j 0).val % 8388608 / 262144 = 2 * s'.val + c'.val := (Finset.mem_filter.mp hj').2
  exact h (Prod.ext (Fin.ext (by show c.val = c'.val; omega)) (Fin.ext (by show s.val = s'.val; omega)))

theorem posSet_disjoint : ∀ t ∈ (Finset.univ : Finset (Fin 2 × Fin 16)), ∀ t' ∈ (Finset.univ : Finset (Fin 2 × Fin 16)), t ≠ t' →
    Disjoint (posSet (tileAt t.1 t.2)) (posSet (tileAt t'.1 t'.2)) := by
  rintro ⟨c, s⟩ _ ⟨c', s'⟩ _ h
  refine Finset.disjoint_left.mpr fun j hj hj' => ?_
  have e : (j 0).val / 262144 = 2 * s.val + c.val := (Finset.mem_filter.mp hj).2
  have e' : (j 0).val / 262144 = 2 * s'.val + c'.val := (Finset.mem_filter.mp hj').2
  exact h (Prod.ext (Fin.ext (by show c.val = c'.val; omega)) (Fin.ext (by show s.val = s'.val; omega)))

theorem xSet_cover : (Finset.univ : Finset (Fin 2 × Fin 16)).biUnion (fun t => xSet (tileAt t.1 t.2)) = Finset.univ := by
  refine Finset.eq_univ_of_forall fun j => Finset.mem_biUnion.mpr ?_
  have hj : (j 0).val < 33554432 := (j 0).isLt
  refine ⟨(⟨(j 0).val % 8388608 / 262144 % 2, by omega⟩, ⟨(j 0).val % 8388608 / 262144 / 2, by omega⟩), Finset.mem_univ _,
    Finset.mem_filter.mpr ⟨Finset.mem_univ _, ?_⟩⟩
  show (j 0).val % 8388608 / 262144 = 2 * ((j 0).val % 8388608 / 262144 / 2) + (j 0).val % 8388608 / 262144 % 2
  omega

theorem posSet_cover : (Finset.univ : Finset (Fin 2 × Fin 16)).biUnion (fun t => posSet (tileAt t.1 t.2)) = Finset.univ := by
  refine Finset.eq_univ_of_forall fun j => Finset.mem_biUnion.mpr ?_
  have hj : (j 0).val < 8388608 := (j 0).isLt
  refine ⟨(⟨(j 0).val / 262144 % 2, by omega⟩, ⟨(j 0).val / 262144 / 2, by omega⟩), Finset.mem_univ _,
    Finset.mem_filter.mpr ⟨Finset.mem_univ _, ?_⟩⟩
  show (j 0).val / 262144 = 2 * ((j 0).val / 262144 / 2) + (j 0).val / 262144 % 2
  omega

/-! ## A tile's shares, held -/

section

variable (d : Dev nD) (i : grid0.Coords)

/-- A memref whose elements are held at `f` is held at what it reads of `f`; -/
theorem holds_intro {sp : Space} (m : Memref sig .scVector sp S32768 .f32) (f : Buf (Elt F) (m.view.loc (thr d i))) :
    (m.view.loc (thr d i) ↦[m.view.set]{fullShare} f) ⊢ holds d i m (m.view.read (Elt F) f) := by
  unfold holds
  iintro H; iexists f; isplitr
  · ipureintro; rfl
  · iexact H

/-- and back. -/
theorem holds_elim {sp : Space} (m : Memref sig .scVector sp S32768 .f32) (f : Buf (Elt F) (m.view.loc (thr d i))) :
    holds d i m (m.view.read (Elt F) f) ⊢ (m.view.loc (thr d i) ↦[m.view.set]{fullShare} f) := by
  unfold holds
  iintro ⟨%g, %hg, H⟩
  rw [pointsTo_congr (f := f) (g := g)]
  · iexact H
  · intro j hj
    obtain ⟨y, -, rfl⟩ := Finset.mem_map.mp hj
    have := congrFun hg y
    rw [View.read_apply, View.read_apply] at this
    exact ((cast_bijective _).1 this).symm

theorem holds_eq {sp : Space} (m : Memref sig .scVector sp S32768 .f32) (f : Buf (Elt F) (m.view.loc (thr d i))) :
    holds d i m (m.view.read (Elt F) f) = (m.view.loc (thr d i) ↦[m.view.set]{fullShare} f) :=
  Entails.antisymm (holds_elim d i m f) (holds_intro d i m f)

theorem xSl_set (s : ℕ) : (xSl i s).view.set = (xBox i s).set := by
  show ((View.whole (main_v0_scv : Ref sig .scVector)).slice (xBox i s)).set = _
  exact View.set_slice_whole _ _
theorem outSl_set (s : ℕ) : (outSl i s).view.set = (xBox i s).set := by
  show ((View.whole (main_v2_scv : Ref sig .scVector)).slice (xBox i s)).set = _
  exact View.set_slice_whole _ _
theorem posSl_set (c : Fin 8) : (posSl i c).view.set = (posBox i c).set := by
  show ((View.whole (main_v1_scv : Ref sig .scVector)).slice (posBox i c)).set = _
  exact View.set_slice_whole _ _

/-- The chunks' values of a flat `x` (or result) and of flat positions. -/
def xChunk (f : S33554432.Idx → F .f32) (s : ℕ) : Chunk F := fun y => f ((xBox i s).emb y)
def posChunk (f : S8388608.Idx → F .f32) (c : Fin 8) : Chunk F := fun y => f ((posBox i c).emb y)

/-- The tile's share of the flat `x` is its chunks, each held. -/
theorem x_chunks (f : Buf (Elt F) (xLoc d)) :
    (xLoc d ↦[xSet i]{fullShare} f) = (bigSep (Finset.range 32) fun s => holds d i (xSl i s) (xChunk i f s)) := by
  rw [← xBox_cover i, pointsTo_biUnion _ _ (xBox_disjoint i)]
  refine bigSep_congr fun s _ => ?_
  refine Eq.trans ?_ (holds_eq d i (xSl i s) f).symm
  rw [xSl_set]

/-- The tile's share of the flat positions is its chunks, each held. -/
theorem pos_chunks (f : Buf (Elt F) (posLoc d)) :
    (posLoc d ↦[posSet i]{fullShare} f) = (bigSep Finset.univ fun c => holds d i (posSl i c) (posChunk i f c)) := by
  rw [← posBox_cover i, pointsTo_biUnion _ _ (posBox_disjoint i)]
  refine bigSep_congr fun c _ => ?_
  refine Eq.trans ?_ (holds_eq d i (posSl i c) f).symm
  rw [posSl_set]

/-- The tile's share of the flat result is its chunks, each held. -/
theorem out_chunks (f : Buf (Elt F) (outLoc d)) :
    (outLoc d ↦[xSet i]{fullShare} f) = (bigSep (Finset.range 32) fun s => holds d i (outSl i s) (xChunk i f s)) := by
  rw [← xBox_cover i, pointsTo_biUnion _ _ (xBox_disjoint i)]
  refine bigSep_congr fun s _ => ?_
  refine Eq.trans ?_ (holds_eq d i (outSl i s) f).symm
  rw [outSl_set]

/-- The sums a task writes are the flat result's chunks. -/
theorem Z_eq [FloatOps F] (fx : S33554432.Idx → F .f32) (fp : S8388608.Idx → F .f32) (s : ℕ) :
    Z (xChunk i fx) (posChunk i fp) s = xChunk i (flatSum fx fp) s := by
  funext y
  unfold Z sumOf xChunk posChunk flatSum
  rw [posOf_xBox]

end

end Cert.Proof.PosAdd

end
-- ==== Proof.Launch.lean ====
/-
  The launch: each tile's task from its shares of the flat arrays, the call's hand-over to the tiles and back, and the
  TensorCore's program around it, to the run of the whole program with the value of its result.
-/
module

public import proofs.«01_k».proof.Proof.Tiles

@[expose] public section

noncomputable section

namespace Cert.Proof.PosAdd

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within reshape_result reshape_result_ne)

variable {F : FTy → Type}

/-- Two assertions that entail each other are one. -/
theorem eq_of {A B : sProp (MM F)} (h : A ⊢ B) (h' : B ⊢ A) : A = B := Entails.antisymm h h'
/-- A separating product entails another that it entails place by place. -/
theorem prod_le {I : Type} {s : Finset I} {A B : I → sProp (MM F)} (h : ∀ t, A t ⊢ B t) : bigSep s A ⊢ bigSep s B := bigSep_mono fun t _ => h t

/-! ## A task's scratch storage -/

section Scratch

variable (d : Dev nD) (i : grid0.Coords)

/-- A memref is held free just when its elements are held at some contents. -/
theorem free_eq {sp : Space} (m : Memref sig .scVector sp S32768 .f32) :
    free (F := F) d i m = iprop(∃ f : Buf (Elt F) (m.view.loc (thr d i)), m.view.loc (thr d i) ↦[m.view.set]{fullShare} f) := by
  refine eq_of ?_ ?_
  · unfold free holds
    iintro ⟨%v, %f, -, H⟩; iexists f; iexact H
  · iintro ⟨%f, H⟩
    iapply (holds_free d i); iapply (holds_intro d i m f); iexact H

/-- The three buffers and the five semaphores of a task. -/
abbrev bufOf : Fin 3 → Ref sig .scVector := ![cc0_scratch0, cc0_scratch1, cc0_scratch2]
abbrev semOf : Fin 5 → DmaSem sig := ![sx false, sx true, so false, so true, sp]

theorem bufOf_injective : Function.Injective fun k => (Proc.scVector (τ := τ) ((i 0).castLE hcore0) ((i 1).castLE hsub0)).devRef (bufOf k) := by
  have h : Function.Injective bufOf := by decide
  exact (Proc.devRef_injective _).comp h
theorem semOf_injective : Function.Injective fun k => ((thr d i, SemLoc.dma (semOf k)) : GSem nD τ sig) := by
  have h : Function.Injective semOf := by decide
  intro a b e
  exact h (SemLoc.dma.inj (Prod.mk.inj e).2)

/-- The buffers' share of a task's storage. -/
theorem ownBufs_scratch :
    (ownBufs (thr d i) : sProp (MM F))
      = iprop((bigSep Finset.univ fun k : Fin 3 => iprop(∃ f, ((thr d i).loc (bufOf k)) ↦{fullShare} f))
          ∗ bigSep (ownRefs (Proc.scVector (τ := τ) ((i 0).castLE hcore0) ((i 1).castLE hsub0))
              \ Finset.univ.map ⟨fun k => (Proc.scVector (τ := τ) ((i 0).castLE hcore0) ((i 1).castLE hsub0)).devRef (bufOf k), bufOf_injective i⟩)
              fun b => iprop(∃ f, ((d, b) : Loc nD τ sig) ↦{fullShare} f)) := by
  unfold SparseCore.Cfg.ownBufs
  refine (SparseCore.bigSep_sdiff_split' (t := Finset.univ.map ⟨fun k => (Proc.scVector (τ := τ) ((i 0).castLE hcore0) ((i 1).castLE hsub0)).devRef (bufOf k), bufOf_injective i⟩) ?_).trans ?_
  · intro b hb
    obtain ⟨k, -, rfl⟩ := Finset.mem_map.mp hb
    refine mem_ownRefs_of_owner ?_
    fin_cases k <;> rfl
  · rw [bigSep_map]; rfl

/-- The semaphores' share of a task's storage. -/
theorem ownSems_scratch :
    (ownSems0 (thr d i) : sProp (MM F))
      = iprop((bigSep Finset.univ fun k : Fin 5 => idle (F := F) d i (semOf k))
          ∗ bigSep (ownCells (thr d i) \ Finset.univ.map ⟨fun k => (thr d i, SemLoc.dma (semOf k)), semOf_injective d i⟩) fun g => semVal g 0) := by
  unfold SparseCore.Cfg.ownSems0
  refine (SparseCore.bigSep_sdiff_split' (t := Finset.univ.map ⟨fun k => (thr d i, SemLoc.dma (semOf k)), semOf_injective d i⟩) ?_).trans ?_
  · intro g hg
    obtain ⟨k, -, rfl⟩ := Finset.mem_map.mp hg
    refine mem_ownCells.mpr ⟨rfl, ?_⟩
    show (SemLoc.dma (semOf k) : SemLoc sig).isScoped .scVector = true
    clear hg; revert k; decide
  · rw [bigSep_map]; rfl

theorem scratch_eq : scratch (F := F) d i
    = iprop((bigSep Finset.univ fun k : Fin 3 => iprop(∃ f, ((thr d i).loc (bufOf k)) ↦{fullShare} f))
        ∗ bigSep Finset.univ fun k : Fin 5 => idle (F := F) d i (semOf k)) := by
  have h0 : (xv false).view.set = Finset.univ := View.set_whole _
  have h1 : (xv true).view.set = Finset.univ := View.set_whole _
  have h2 : (pv : Memref sig .scVector .vmem S32768 .f32).view.set = Finset.univ := View.set_whole _
  unfold scratch
  rw [free_eq, free_eq, free_eq, h0, h1, h2]
  rw [show (Finset.univ : Finset (Fin 3)) = {0, 1, 2} by decide, SparseCore.bigSep_insert' (by decide), SparseCore.bigSep_insert' (by decide), bigSep_singleton,
    show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  refine eq_of ?_ ?_
  · iintro ⟨Ha, Hb, Hc, H⟩
    isplitl [Ha Hb Hc]
    · isplitl [Ha]; · iexact Ha
      isplitl [Hb]; · iexact Hb
      iexact Hc
    · iexact H
  · iintro ⟨⟨Ha, Hb, Hc⟩, H⟩
    isplitl [Ha]; · iexact Ha
    isplitl [Hb]; · iexact Hb
    isplitl [Hc]; · iexact Hc
    iexact H

/-- A task's storage lends the task its scratch. -/
theorem scratch_lend :
    iprop(scopedBufs (thr d i) ∗ scopedSems0 (thr d i))
      ⊢ (iprop(scratch (F := F) d i ∗ (scratch (F := F) d i -∗ iprop(scopedBufs (thr d i) ∗ scopedSems0 (thr d i)))) : sProp (MM F)) := by
  rw [(K (F := F)).scopedBufs_V facts d ((i 0).castLE hcore0) ((i 1).castLE hsub0),
    SparseCore.Cfg.scopedSems0_V (Val := Elt F) d ((i 0).castLE hcore0) ((i 1).castLE hsub0), ownBufs_scratch, ownSems_scratch, scratch_eq]
  iintro ⟨⟨Hb, Hb'⟩, Hs, Hs'⟩
  isplitl [Hb Hs]
  · isplitl [Hb] <;> iassumption
  iintro ⟨Hb, Hs⟩
  isplitl [Hb Hb']
  · isplitl [Hb] <;> iassumption
  · isplitl [Hs] <;> iassumption

end Scratch

/-! ## A tile's task -/

variable [FloatOps F] (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The flat `x`, the flat positions, their flat sum, and the result the program returns. -/
def flatX (d : Dev nD) : Buf (Elt F) (xLoc d) := shapeCast S33554432 (m (aLoc d) : S4x8192x1024.Idx → F .f32) shapeCasts_S4x8192x1024_S33554432
def flatP (d : Dev nD) : Buf (Elt F) (posLoc d) := shapeCast S8388608 (m (bLoc d) : S8192x1024.Idx → F .f32) shapeCasts_S8192x1024_S8388608
def flatOut (d : Dev nD) : Buf (Elt F) (outLoc d) := flatSum (flatX m d) (flatP m d)
def result (d : Dev nD) : Buf (Elt F) (rLoc d) := shapeCast S4x8192x1024 (flatOut m d : S33554432.Idx → F .f32) shapeCasts_S33554432_S4x8192x1024

/-- What a tile is handed, and what it hands back. -/
def tileIn (d : Dev nD) (i : grid0.Coords) : sProp (MM F) :=
  iprop((xLoc d ↦[xSet i]{fullShare} flatX m d) ∗ (posLoc d ↦[posSet i]{fullShare} flatP m d) ∗ ∃ g, outLoc d ↦[xSet i]{fullShare} g)
def tileOut (d : Dev nD) (i : grid0.Coords) : sProp (MM F) :=
  iprop((xLoc d ↦[xSet i]{fullShare} flatX m d) ∗ (posLoc d ↦[posSet i]{fullShare} flatP m d) ∗ (outLoc d ↦[xSet i]{fullShare} flatOut m d))

instance tileIn_storable (d : Dev nD) (i : grid0.Coords) : BI.Storable (upEmb : UEmb _ (MM F)) (tileIn m d i) := by unfold tileIn; infer_instance
instance tileOut_storable (d : Dev nD) (i : grid0.Coords) : BI.Storable (upEmb : UEmb _ (MM F)) (tileOut m d i) := by unfold tileOut; infer_instance

/-- The task's share of the result before it is written: every chunk free. -/
theorem out_free (d : Dev nD) (i : grid0.Coords) (g : Buf (Elt F) (outLoc d)) :
    (outLoc d ↦[xSet i]{fullShare} g) ⊢ todo (F := F) d i (Finset.range 32) := by
  rw [out_chunks]
  exact bigSep_mono fun s _ => holds_free d i

/-- A tile's task: from its shares to its shares, the result's at the sums. -/
theorem tile_body (d : Dev nD) (i : grid0.Coords) (O : CellTallies nD τ sig (HIx 1)) (W : Waits sig (HIx 1)) (hO : ∀ g, O g none = 0) :
    iprop(levAts (K (F := F)).L (K (F := F)).lev ∗ emp ∗ tileIn m d i ∗ scopedBufs (thr d i) ∗ scopedSems0 (thr d i) ∗ owes (thr d i) O W)
      ⊢ wp frame (wpE (defs₀ (F := F)) 𝒱₀ (thr d i) none) Set.univ (printed i)
          fun _ => iprop(tileOut m d i ∗ scopedBufs (thr d i) ∗ scopedSems0 (thr d i) ∗ ∃ W', ⌜∀ p ∈ W', p ∈ W ∨ p.2 = none⌝ ∗ owes (thr d i) O W') := by
  rw [printed_eq_task]
  iintro ⟨#Hlv, -, Hin, Hsb, Hss, HO⟩
  ihave Hmw := ((K (F := F)).mayWaits_none (thr := thr d i) hO) $$ Hlv
  ihave Hsc := (scratch_lend d i) $$ [Hsb Hss]
  · isplitl [Hsb] <;> iassumption
  icases Hsc with ⟨Hsc, Hback⟩
  icases (Entails.of_eq (show tileIn m d i = iprop((xLoc d ↦[xSet i]{fullShare} flatX m d) ∗ (posLoc d ↦[posSet i]{fullShare} flatP m d)
    ∗ ∃ g, outLoc d ↦[xSet i]{fullShare} g) from rfl)) $$ Hin with ⟨Hx, Hp, %g, Ho⟩
  ihave Hx := (Entails.of_eq (x_chunks d i _)) $$ Hx
  ihave Hp := (Entails.of_eq (pos_chunks d i _)) $$ Hp
  ihave Ho := (out_free d i g) $$ Ho
  iapply (wp_wand_r Idealize.ShloMosaic.frame (wpE (defs₀ (F := F)) 𝒱₀ (thr d i) none) Set.univ)
  isplitl [Hmw Hsc Hx Hp Ho HO]
  · iapply (twp_task d i (xChunk i (flatX m d)) (posChunk i (flatP m d)) O W)
    isplitl [Hmw]; · iexact Hmw
    isplitl [Hsc]; · iexact Hsc
    isplitl [Hx]; · iexact Hx
    isplitl [Hp]; · iexact Hp
    isplitl [Ho]; · iexact Ho
    unfold owing
    iexists W; isplitr
    · ipureintro; exact fun p hp => .inl hp
    · iexact HO
  iintro %_ ⟨Hsc, Hx, Hp, Ho, HO⟩
  isplitl [Hx Hp Ho]
  · unfold tileOut
    isplitl [Hx]; · rw [x_chunks]; iexact Hx
    isplitl [Hp]; · rw [pos_chunks]; iexact Hp
    rw [out_chunks, show (bigSep (Finset.range 32) fun s => holds d i (outSl i s) (xChunk i (flatOut m d) s))
      = done d i (xChunk i (flatX m d)) (posChunk i (flatP m d)) (Finset.range 32) from bigSep_congr fun s _ => by unfold flatOut; rw [Z_eq]]
    iexact Ho
  ihave Hb := Hback $$ Hsc
  icases Hb with ⟨Hsb, Hss⟩
  isplitl [Hsb]; · iexact Hsb
  isplitl [Hss]; · iexact Hss
  unfold owing
  iexact HO

/-! ## The call's payloads and obligations -/

theorem nCore_zero : (K (F := F)).nCore 0 = 2 := rfl
theorem nSub_zero : (K (F := F)).nSub 0 = 16 := rfl

/-- The tile of the call's SparseCore `c` and vector subcore `s`. -/
abbrev tile (c : Fin ((K (F := F)).nCore 0)) (s : Fin ((K (F := F)).nSub 0)) : grid0.Coords := tileAt (Fin.cast (nCore_zero (F := F)) c) (Fin.cast (nSub_zero (F := F)) s)

/-- The call hands each SparseCore its tiles' shares and takes them back. -/
def P : (K (F := F)).Pay (nD := nD) (Val := Elt F) (Name := ℕ) (U := UU) where
  st := fun q d c => match q with | 0 => bigSep Finset.univ fun s => tileIn m d (tile c s)
  dn := fun q d c => match q with | 0 => bigSep Finset.univ fun s => tileOut m d (tile c s)
  go := fun q d c s => match q with | 0 => tileIn m d (tile c s)
  td := fun q d c s => match q with | 0 => tileOut m d (tile c s)
  x := fun _ _ => iprop(emp)

instance P_storable : (P (F := F) m).IsStorable where
  st q d c := by match q with | 0 => (unfold P; infer_instance)
  dn q d c := by match q with | 0 => (unfold P; infer_instance)
  go q _ _ _ := by match q with | 0 => (unfold P; infer_instance)
  td q _ _ _ := by match q with | 0 => (unfold P; infer_instance)

theorem defs₀_vector (c : Fin τ.nSC) (s : Fin τ.nSub) :
    defs₀ (F := F) (.scVector c s) 0 ()
      = SparseCore.onTile hcore0 hsub0 (fun c s => printed (F := F) (tileAt c s)) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body m d (tileAt ⟨_, hc.1⟩ ⟨_, hc.2⟩) O W hO).trans (wp_mono frame _ _ fun _ => obl_post)

theorem vecSplit : (K (F := F)).VecSplit' (P m) 0 := by
  intro d c
  show (bigSep Finset.univ fun s => tileIn m d (tile c s)) ⊢ |={Set.univ}=> iprop((bigSep Finset.univ fun s => tileIn m d (tile c s))
    ∗ ((bigSep Finset.univ fun s => tileOut m d (tile c s)) -∗ bigSep Finset.univ fun s => tileOut m d (tile c s)))
  iintro H; imodintro
  isplitl [H]; · iexact H
  iintro H; iexact H

/-! ## The arrays dealt to the tiles and gathered from them -/

theorem x_tiles (d : Dev nD) (f : Buf (Elt F) (xLoc d)) :
    (xLoc d ↦{fullShare} f : sProp (MM F)) = bigSep Finset.univ fun t : Fin 2 × Fin 16 => xLoc d ↦[xSet (tileAt t.1 t.2)]{fullShare} f := by
  rw [← pointsTo_biUnion Finset.univ (ℓ := xLoc d) (fun t : Fin 2 × Fin 16 => xSet (tileAt t.1 t.2)) xSet_disjoint, xSet_cover]
theorem out_tiles (d : Dev nD) (f : Buf (Elt F) (outLoc d)) :
    (outLoc d ↦{fullShare} f : sProp (MM F)) = bigSep Finset.univ fun t : Fin 2 × Fin 16 => outLoc d ↦[xSet (tileAt t.1 t.2)]{fullShare} f := by
  rw [← pointsTo_biUnion Finset.univ (ℓ := outLoc d) (fun t : Fin 2 × Fin 16 => xSet (tileAt t.1 t.2)) xSet_disjoint, xSet_cover]
theorem pos_tiles (d : Dev nD) (f : Buf (Elt F) (posLoc d)) :
    (posLoc d ↦{fullShare} f : sProp (MM F)) = bigSep Finset.univ fun t : Fin 2 × Fin 16 => posLoc d ↦[posSet (tileAt t.1 t.2)]{fullShare} f := by
  rw [← pointsTo_biUnion Finset.univ (ℓ := posLoc d) (fun t : Fin 2 × Fin 16 => posSet (tileAt t.1 t.2)) posSet_disjoint, posSet_cover]

/-- What the call takes, from the three arrays whole; -/
theorem st_intro (d : Dev nD) (g : Buf (Elt F) (outLoc d)) :
    iprop((xLoc d ↦{fullShare} flatX m d) ∗ (posLoc d ↦{fullShare} flatP m d) ∗ (outLoc d ↦{fullShare} g))
      ⊢ (bigSep Finset.univ fun c : Fin ((K (F := F)).nCore 0) => (P m).st 0 d c) := by
  show _ ⊢ bigSep (Finset.univ : Finset (Fin 2)) fun c => bigSep (Finset.univ : Finset (Fin 16)) fun s => tileIn m d (tileAt c s)
  rw [← bigSep_univ_prod fun t : Fin 2 × Fin 16 => tileIn m d (tileAt t.1 t.2), x_tiles, pos_tiles, out_tiles, ← bigSep_sep', ← bigSep_sep']
  refine prod_le fun t => ?_
  unfold tileIn
  iintro ⟨Hx, Hp, Ho⟩
  isplitl [Hx]; · iexact Hx
  isplitl [Hp]; · iexact Hp
  iexists g; iexact Ho

/-- and the three arrays whole, from what it hands back. -/
theorem dn_elim (d : Dev nD) :
    (bigSep Finset.univ fun c : Fin ((K (F := F)).nCore 0) => (P m).dn 0 d c)
      ⊢ iprop((xLoc d ↦{fullShare} flatX m d) ∗ (posLoc d ↦{fullShare} flatP m d) ∗ (outLoc d ↦{fullShare} flatOut m d)) := by
  show (bigSep (Finset.univ : Finset (Fin 2)) fun c => bigSep (Finset.univ : Finset (Fin 16)) fun s => tileOut m d (tileAt c s)) ⊢ _
  rw [← bigSep_univ_prod fun t : Fin 2 × Fin 16 => tileOut m d (tileAt t.1 t.2), x_tiles, pos_tiles, out_tiles, ← bigSep_sep', ← bigSep_sep']
  exact bigSep_mono fun t _ => BI.Entails.refl _

/-! ## The launch element -/

def u₀ : UU := (initOf (K (F := F)).hsCells (K (F := F)).hsToks, 1)

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  icases (ownU_pair _ _) $$ Hu with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The TensorCore's program -/

abbrev ref (r : Ref sig .tc) : DevRef τ sig := Proc.devRef .tc r
abbrev opX : HloOp τ sig (Elt F) := StableHlo.reshape main_arg0 main_v0 (rfl : (.f32 : EltTy) = .f32) shapeCasts_S4x8192x1024_S33554432
abbrev opP : HloOp τ sig (Elt F) := StableHlo.reshape main_arg1 main_v1 (rfl : (.f32 : EltTy) = .f32) shapeCasts_S8192x1024_S8388608
abbrev opR : HloOp τ sig (Elt F) := StableHlo.reshape main_v2 main_v3 (rfl : (.f32 : EltTy) = .f32) shapeCasts_S33554432_S4x8192x1024

/-- The TensorCore's arrays. -/
abbrev S6 : Finset (DevRef τ sig) := {ref main_arg0, ref main_arg1, ref main_v0, ref main_v1, ref main_v2, ref main_v3}

theorem held_S6 (d : Dev nD) (U : Valuation τ sig (Elt F)) :
    (held (T d) S6 U : sProp (MM F)) = iprop((aLoc d ↦{fullShare} U (ref main_arg0)) ∗ (bLoc d ↦{fullShare} U (ref main_arg1)) ∗ (xLoc d ↦{fullShare} U (ref main_v0))
      ∗ (posLoc d ↦{fullShare} U (ref main_v1)) ∗ (outLoc d ↦{fullShare} U (ref main_v2)) ∗ (rLoc d ↦{fullShare} U (ref main_v3))) := by
  unfold held S6
  rw [SparseCore.bigSep_insert' (by decide), SparseCore.bigSep_insert' (by decide), SparseCore.bigSep_insert' (by decide), SparseCore.bigSep_insert' (by decide),
    SparseCore.bigSep_insert' (by decide), bigSep_singleton]

/-- The arrays at launch, after the two flattenings, after the call, and at the end. -/
def V0 (d : Dev nD) : Valuation τ sig (Elt F) := fun b => m (d, b)
def V2 (d : Dev nD) : Valuation τ sig (Elt F) := opP.result (opX.result (V0 m d))
def V3 (d : Dev nD) : Valuation τ sig (Elt F) := Function.update (V2 m d) (ref main_v2) (flatOut m d)
def V4 (d : Dev nD) : Valuation τ sig (Elt F) := opR.result (V3 m d)

theorem unscoped_held (d : Dev nD) : (unscopedBufs d (fun b => m ((SparseCore.T d).loc b)) : sProp (MM F)) = held (T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]
  rfl

theorem V2_ne (d : Dev nD) {r : Ref sig .tc} (h : r ≠ main_v0) (h' : r ≠ main_v1) : V2 m d (ref r) = m ((SparseCore.T d).loc r) := by
  unfold V2; rw [reshape_result_ne _ _ _ _ _ _ _ h', reshape_result_ne _ _ _ _ _ _ _ h]; rfl
theorem V2_x (d : Dev nD) : V2 m d (ref main_v0) = flatX m d := by
  unfold V2; rw [reshape_result_ne _ _ _ _ _ _ _ (by decide), reshape_result]; rfl
theorem V2_pos (d : Dev nD) : V2 m d (ref main_v1) = flatP m d := by
  unfold V2; rw [reshape_result, reshape_result_ne _ _ _ _ _ _ _ (by decide)]; rfl
theorem V3_out (d : Dev nD) : V3 m d (ref main_v2) = flatOut m d := Function.update_self _ _ _
theorem V3_ne (d : Dev nD) {r : Ref sig .tc} (h : ref r ≠ ref main_v2) : V3 m d (ref r) = V2 m d (ref r) := Function.update_of_ne h _ _
theorem V4_ne (d : Dev nD) {r : Ref sig .tc} (h : r ≠ main_v3) : V4 m d (ref r) = V3 m d (ref r) := by
  unfold V4; rw [reshape_result_ne _ _ _ _ _ _ _ h]
theorem V4_res (d : Dev nD) : V4 m d (ref main_v3) = result m d := by
  unfold V4; rw [reshape_result, V3_out]; rfl

/-- What the program leaves: the arguments as they were, and the result. -/
abbrev FIN (d : Dev nD) : sProp (MM F) :=
  iprop((aLoc d ↦{fullShare} m (aLoc d)) ∗ (bLoc d ↦{fullShare} m (bLoc d)) ∗ (rLoc d ↦{fullShare} result m d))

theorem hX : (opX (F := F)).bufs ⊆ S6 := show ({ref main_arg0, ref main_v0} : Finset (DevRef τ sig)) ⊆ S6 by decide
theorem hP : (opP (F := F)).bufs ⊆ S6 := show ({ref main_arg1, ref main_v1} : Finset (DevRef τ sig)) ⊆ S6 by decide
theorem hR : (opR (F := F)).bufs ⊆ S6 := show ({ref main_v2, ref main_v3} : Finset (DevRef τ sig)) ⊆ S6 by decide

/-- The arrays before the call, and after it. -/
theorem held_V2 (d : Dev nD) :
    (held (T d) S6 (V2 m d) : sProp (MM F)) = iprop((aLoc d ↦{fullShare} m (aLoc d)) ∗ (bLoc d ↦{fullShare} m (bLoc d)) ∗ (xLoc d ↦{fullShare} flatX m d)
      ∗ (posLoc d ↦{fullShare} flatP m d) ∗ (outLoc d ↦{fullShare} m (outLoc d)) ∗ (rLoc d ↦{fullShare} m (rLoc d))) := by
  rw [held_S6, V2_x, V2_pos, V2_ne m d (r := main_arg0) (by decide) (by decide), V2_ne m d (r := main_arg1) (by decide) (by decide),
    V2_ne m d (r := main_v2) (by decide) (by decide), V2_ne m d (r := main_v3) (by decide) (by decide)]
theorem held_V3 (d : Dev nD) :
    (held (T d) S6 (V3 m d) : sProp (MM F)) = iprop((aLoc d ↦{fullShare} m (aLoc d)) ∗ (bLoc d ↦{fullShare} m (bLoc d)) ∗ (xLoc d ↦{fullShare} flatX m d)
      ∗ (posLoc d ↦{fullShare} flatP m d) ∗ (outLoc d ↦{fullShare} flatOut m d) ∗ (rLoc d ↦{fullShare} m (rLoc d))) := by
  rw [held_S6, V3_out, V3_ne m d (r := main_arg0) (by decide), V3_ne m d (r := main_arg1) (by decide), V3_ne m d (r := main_v0) (by decide),
    V3_ne m d (r := main_v1) (by decide), V3_ne m d (r := main_v3) (by decide), V2_x, V2_pos, V2_ne m d (r := main_arg0) (by decide) (by decide),
    V2_ne m d (r := main_arg1) (by decide) (by decide), V2_ne m d (r := main_v3) (by decide) (by decide)]
theorem held_V4 (d : Dev nD) :
    (held (T d) S6 (V4 m d) : sProp (MM F)) ⊢ FIN m d := by
  rw [held_S6, V4_res, V4_ne m d (r := main_arg0) (by decide), V4_ne m d (r := main_arg1) (by decide), V3_ne m d (r := main_arg0) (by decide),
    V3_ne m d (r := main_arg1) (by decide), V2_ne m d (r := main_arg0) (by decide) (by decide), V2_ne m d (r := main_arg1) (by decide) (by decide)]
  iintro ⟨Ha, Hb, -, -, -, Hr⟩
  isplitl [Ha]; · iexact Ha
  isplitl [Hb] <;> iassumption

/-- The TensorCore's program on device `d`. -/
theorem hmain (κ : GSem nD τ sig → ℕ) (d : Dev nD) :
    iprop((K (F := F)).ctx (EH (F := F)) (P m) κ ∗ (K (F := F)).tcSt (EH (F := F)) d 0 ∗ (K (F := F)).tcRes m ρ d ∗ emp)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := V0 m d)) $$ [Hb Hheld]
  · isplitl [Hb] <;> iassumption
  iintro ⟨Hb, Hheld⟩
  rw [wp_ret]; imodintro
  iapply (wp_hlo_within 𝒱 (SparseCore.T d) none Set.univ (op := opP) (S := S6) hP (V := opX.result (V0 m d))) $$ [Hb Hheld]
  · isplitl [Hb] <;> iassumption
  iintro ⟨Hb, Hheld⟩
  rw [wp_ret]; imodintro
  icases (Entails.of_eq ((congrArg (held (T d) S6) (show opP.result (opX.result (V0 m d)) = V2 m d from rfl)).trans (held_V2 (F := F) m d))) $$ Hheld with ⟨Ha, Hp, Hx, Hpos, Ho, Hr⟩
  iapply ((K (F := F)).wp_run (D (F := F)) 𝒱 (EH := EH) (P := P m) κ d 0) $$ [Hst Hb Ha Hp Hx Hpos Ho Hr Hts]
  isplitr; · iexact Hctx
  isplitl [Hst]; · iexact Hst
  isplitl [Hx Hpos Ho]
  · iapply (st_intro m d (m (outLoc d)))
    isplitl [Hx]; · iexact Hx
    isplitl [Hpos] <;> iassumption
  iintro ⟨Hst, Hdn⟩
  icases (dn_elim m d) $$ Hdn with ⟨Hx, Hpos, Ho⟩
  iapply (wp_hlo_within 𝒱 (SparseCore.T d) none Set.univ (op := opR) (S := S6) hR (V := V3 m d)) $$ [Hb Ha Hp Hx Hpos Ho Hr]
  · isplitl [Hb]; · iexact Hb
    rw [held_V3]
    isplitl [Ha]; · iexact Ha
    isplitl [Hp]; · iexact Hp
    isplitl [Hx]; · iexact Hx
    isplitl [Hpos]; · iexact Hpos
    isplitl [Ho] <;> iassumption
  iintro ⟨Hb, Hheld⟩
  rw [wp_ret]; imodintro; imodintro
  isplitl [Hst]; · iexact Hst
  isplitl [Hheld]
  · iapply (held_V4 m d); iexact Hheld
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (rLoc d) = result m d

/-- An array held whole is what the memory holds. -/
theorem agree (s' : Phys nD τ sig (Elt F)) (ℓ : Loc nD τ sig) (f : Buf (Elt F) ℓ) (R : sProp (MM F)) :
    iprop(((ℓ ↦{fullShare} f) ∗ R) ∗ SI s') ⊢ (⌜s'.mem.mem ℓ = f⌝ : sProp (MM F)) := by
  iintro ⟨⟨H, -⟩, HSI⟩
  ihave H := (SI_pointsTo_agree (st := s') (ℓ := ℓ) (I := Finset.univ) (q := fullShare) (f := f)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (MM F)) := by
  intro x hx
  refine ⟨agree s' _ _ _ x hx, agree s' (bLoc d) _ iprop((aLoc d ↦{fullShare} m (aLoc d)) ∗ (rLoc d ↦{fullShare} result m d)) x ?_,
    agree s' (rLoc d) _ iprop((aLoc d ↦{fullShare} m (aLoc d)) ∗ (bLoc d ↦{fullShare} m (bLoc d))) x ?_⟩
  · refine (show iprop(FIN m d ∗ SI s') ⊢ _ from ?_) x hx
    iintro ⟨⟨Ha, Hb, Hr⟩, HSI⟩
    isplitr [HSI]
    · isplitl [Hb]; · iexact Hb
      isplitl [Ha] <;> iassumption
    · iexact HSI
  · refine (show iprop(FIN m d ∗ SI s') ⊢ _ from ?_) x hx
    iintro ⟨⟨Ha, Hb, Hr⟩, HSI⟩
    isplitr [HSI]
    · isplitl [Hr]; · iexact Hr
      isplitl [Ha] <;> iassumption
    · iexact HSI

/-- The run of the whole program: it ends, its arguments as they were, its result the sum, and every semaphore at zero. -/
def QC : PUnit × MemSt nD τ sig (Elt F) → Prop := fun r =>
  (∀ c : Dev nD, r.2.mem (aLoc c) = m (aLoc c) ∧ r.2.mem (bLoc c) = m (bLoc c) ∧ r.2.mem (rLoc c) = result m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.PosAdd

end
-- ==== Proof.Value.lean ====
/-
  What the kernel returns, index by index: flattening the two arguments, adding each flat position's word, and folding the sum
  back gives `x[b, t, e] + pos[t, e]` at batch `b`, position `t` and feature `e`.
-/
module

public import proofs.«01_k».proof.Proof.Tiles
public import Idealize.ShloMosaic.Lib.ValueIdxCore

@[expose] public section

noncomputable section

namespace Cert.Proof.PosAdd

open Cert.KernelIdeal Cert.KernelIdeal.Gen
open Idealize.ShloMosaic Idealize.ShloMosaic.ValueIdx

variable {F : FTy → Type} [FloatOps F]

/-- The place of batch `b`, position `t`, feature `e` in the flat array. -/
def flatAt (b : Fin 4) (t : Fin 8192) (e : Fin 1024) : S33554432.Idx :=
  ix1 (⟨8388608 * b.val + 1024 * t.val + e.val, by have := b.isLt; have := t.isLt; have := e.isLt; omega⟩ : Fin 33554432)

theorem rowMajor3 (b : Fin 4) (t : Fin 8192) (e : Fin 1024) :
    (S4x8192x1024.rowMajor (ix3 b t e)).val = 8388608 * b.val + 1024 * t.val + e.val := by
  rw [Shape.rowMajor_val_three]
  show (b.val * 8192 + t.val) * 1024 + e.val = _
  omega
theorem rowMajor2 (t : Fin 8192) (e : Fin 1024) : (S8192x1024.rowMajor (ix2 t e)).val = 1024 * t.val + e.val := by
  rw [Shape.rowMajor_val_two]
  show t.val * 1024 + e.val = _
  omega

/-- The flat sum, folded back, at one index. -/
theorem folded_at (x : S4x8192x1024.Idx → F .f32) (p : S8192x1024.Idx → F .f32) (b : Fin 4) (t : Fin 8192) (e : Fin 1024) :
    shapeCast S4x8192x1024 (flatSum (shapeCast S33554432 x shapeCasts_S4x8192x1024_S33554432) (shapeCast S8388608 p shapeCasts_S8192x1024_S8388608))
      shapeCasts_S33554432_S4x8192x1024 (ix3 b t e) = FloatOps.addf (x (ix3 b t e)) (p (ix2 t e)) := by
  rw [shapeCast_apply _ _ _ (flatAt b t e) (by rw [Shape.rowMajor_val_one, rowMajor3]; rfl)]
  unfold flatSum
  rw [shapeCast_apply x _ _ (ix3 b t e) (by rw [Shape.rowMajor_val_one, rowMajor3]; rfl),
    shapeCast_apply p _ _ (ix2 t e) (by
      rw [Shape.rowMajor_val_one, rowMajor2]
      show _ = (8388608 * b.val + 1024 * t.val + e.val) % 8388608
      have := t.isLt; have := e.isLt; omega)]

end Cert.Proof.PosAdd

end
-- ==== Proof.Reference.lean ====
/-
  What the reference computes: the table it looks up at the positions `0, 1, …, 8191` is the table itself, so its result at
  batch `b`, position `t` and feature `e` is `x[b, t, e] + pos[t, e]`.
-/
module

public import proofs.«01_k».proof.Proof.Gen.ReferenceIdeal.Run
public import Idealize.ShloMosaic.Lib.StableHlo.Predicate
public import Idealize.ShloMosaic.Lib.Routing.Ops

@[expose] public section

noncomputable section

namespace Cert.Proof.RefAdd

open Cert.ReferenceIdeal Cert.ReferenceIdeal.Gen Idealize.SL.Sem
open Idealize.ShloMosaic Idealize.ShloMosaic.ValueIdx
open Idealize.ShloMosaic.StableHlo.Predicate (sge_iff_toNat sle_iff_toNat slt_iff_toNat)

variable {F : FTy → Type} [FloatOps F]

/-- A broadcast at `j` is its operand at the index that `j` names on the operand's axes of more than one place. -/
theorem bcast_at {α : Type} {s t : Shape} {dims : Fin s.rank → Fin t.rank} (h : s.BroadcastsInDim t dims) (x : s.Idx → α) (j : t.Idx) (k : s.Idx)
    (hk : ∀ a, (k a).val = if s.size a = 1 then 0 else (j (dims a)).val) : broadcastInDim t dims h x j = x k := by
  unfold broadcastInDim
  refine congrArg x (funext fun a => Fin.ext ?_)
  rw [hk a]
  by_cases e : s.size a = 1
  · rw [dif_pos e, if_pos e]
  · rw [dif_neg e, if_neg e]

/-- The row numbers the reference looks up, as it wraps those below zero, and the rows that lie in the table. -/
def rows : IVec S8192x1 32 :=
  broadcastInDim S8192x1 ![0] bcast_S8192_S8192x1_0 (select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0))
def within : IVec S8192 1 :=
  Host.reduce IntOp.andi (andi (cmpi .sge rows (broadcastInDim S8192x1 ![] bcast_S_S8192x1 (constantI S_ 32 0#32)))
    (cmpi .sle rows (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_
/-- The rows looked up, a row outside the table filled; and the whole reference. -/
def taken (p : S8192x1024.Idx → F .f32) : S8192x1024.Idx → F .f32 :=
  select (broadcastInDim S8192x1024 ![0] bcast_S8192_S8192x1024_0 within) (Host.gather gather_S8192x1024_S8192x1_S8192x1024_1_0_n_n_0_1_11024 p rows)
    (broadcastInDim S8192x1024 ![] bcast_S_S8192x1024 (constant S_ .f32 0x7FC00000#32))
def total (x : S4x8192x1024.Idx → F .f32) (p : S8192x1024.Idx → F .f32) : S4x8192x1024.Idx → F .f32 :=
  addf x (broadcastInDim S4x8192x1024 ![0, 1, 2] bcast_S1x8192x1024_S4x8192x1024_0_1_2 (broadcastInDim S1x8192x1024 ![1, 2] bcast_S8192x1024_S1x8192x1024_1_2 (taken p)))

theorem word_toNat (t : Fin 8192) : (BitVec.ofNat 32 t.val).toNat = t.val := by
  have := t.isLt
  rw [BitVec.toNat_ofNat]; omega

/-- The row number looked up for position `t` is `t`. -/
theorem rows_at (t : Fin 8192) : rows (ix2 t (0 : Fin 1)) = BitVec.ofNat 32 t.val := by
  unfold rows
  rw [bcast_at _ _ _ (ix1 t) (fun a => match a with | ⟨0, _⟩ => rfl)]
  show Scalar.select (IntOp.cmpi .slt (BitVec.ofNat 32 t.val) 0#32) (IntOp.addi (BitVec.ofNat 32 t.val) 8192#32) (BitVec.ofNat 32 t.val) = _
  unfold Scalar.select
  refine if_neg fun h => ?_
  have hl := (slt_iff_toNat (by rw [word_toNat]; have := t.isLt; omega) (by decide)).mp h
  exact absurd hl (Nat.not_lt_zero _)

/-- Every row looked up lies in the table. -/
theorem within_at (j : S8192.Idx) : within j = 1#1 := by
  have hand : andi (cmpi .sge rows (broadcastInDim S8192x1 ![] bcast_S_S8192x1 (constantI S_ 32 0#32)))
      (cmpi .sle rows (broadcastInDim S8192x1 ![0, 1] bcast_S1x1_S8192x1_0_1 (broadcastInDim S1x1 ![1] bcast_S1_S1x1_1 (constantI S1 32 8191#32))))
      = fun _ => 1#1 := by
    funext i
    obtain ⟨t, u, rfl⟩ : ∃ t u, i = ix2 t u := ⟨_, _, eq_ix2 i⟩
    obtain rfl : u = 0 := Subsingleton.elim _ _
    show IntOp.andi (IntOp.cmpi .sge (rows (ix2 t (0 : Fin 1))) 0#32) (IntOp.cmpi .sle (rows (ix2 t (0 : Fin 1))) 8191#32) = 1#1
    have ht := t.isLt
    rw [rows_at, (sge_iff_toNat (by rw [word_toNat]; omega) (by decide)).mpr (Nat.zero_le _),
      (sle_iff_toNat (by rw [word_toNat]; omega) (by decide)).mpr (by rw [word_toNat]; show t.val ≤ 8191; omega)]
    rfl
  unfold within
  rw [hand, Host.reduce_eq_foldl]
  generalize List.filter _ _ = l
  induction l with
  | nil => rfl
  | cons a l ih => exact ih

/-- The lookup is the table itself. -/
theorem taken_eq (p : S8192x1024.Idx → F .f32) : taken p = p := by
  have hw : broadcastInDim S8192x1024 ![0] bcast_S8192_S8192x1024_0 within = fun _ => 1#1 := by
    funext j; unfold broadcastInDim; exact within_at _
  have hn : 8192 < 2 ^ 31 := by norm_num
  funext j
  obtain ⟨t, e, rfl⟩ : ∃ t e, j = ix2 t e := ⟨_, _, eq_ix2 j⟩
  unfold taken select Scalar.select
  rw [hw]
  exact (if_pos rfl).trans (Routing.gather_row (nb := 8192) (B := 1024) (n := 8192) gather_S8192x1024_S8192x1_S8192x1024_1_0_n_n_0_1_11024 rfl rfl rfl rfl rfl
    p rows t e t (rows_at t) hn)

/-- The reference at batch `b`, position `t`, feature `e`. -/
theorem total_at (x : S4x8192x1024.Idx → F .f32) (p : S8192x1024.Idx → F .f32) (b : Fin 4) (t : Fin 8192) (e : Fin 1024) :
    total x p (ix3 b t e) = FloatOps.addf (x (ix3 b t e)) (p (ix2 t e)) := by
  unfold total
  rw [taken_eq]
  refine congrArg (FloatOps.addf (x (ix3 b t e))) ?_
  rw [bcast_at _ _ _ (ix3 (0 : Fin 1) t e) (fun a => match a with | ⟨0, _⟩ => rfl | ⟨1, _⟩ => rfl | ⟨2, _⟩ => rfl),
    bcast_at _ _ _ (ix2 t e) (fun a => match a with | ⟨0, _⟩ => rfl | ⟨1, _⟩ => rfl)]

/-- The reference's run: its result is `total` of its arguments, which stay as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.RefAdd

end
-- ==== Proof.lean ====
/-
  The five claims of the certificate: the kernel's frame on bit-level floats and on ideal ones, the reference's frame, the
  kernel's idealization, and the equality of the kernel's result with the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Value
public import proofs.«01_k».proof.Proof.Reference

@[expose] public section

noncomputable section

namespace Cert.Proof

open Idealize.ShloMosaic Idealize.ShloMosaic.ValueIdx Idealize.SL.Sem

/-- The kernel on bit-level floats runs, leaves its arguments and ends with every semaphore at zero. -/
theorem frame_kernel : Cert.quiescent_Kernel := fun m ρ _ =>
  (θ_run Cert.KernelIdeal.defs _ _).mono (fun _ h => ⟨fun c => ⟨(h.1 c).1, (h.1 c).2.1⟩, h.2⟩) (PosAdd.run_main (F := Bits) m ρ)

/-- The same on ideal floats. -/
theorem frame_ideal : Cert.quiescent_KernelIdeal := fun m ρ _ =>
  (θ_run Cert.KernelIdeal.defs _ _).mono (fun _ h => ⟨fun c => ⟨(h.1 c).1, (h.1 c).2.1⟩, h.2⟩) (PosAdd.run_main (F := Ideal) m ρ)

/-- The reference runs and leaves its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (RefAdd.run (F := Ideal) m ρ)

/-- What the kernel returns is what the reference returns, of equal arguments. -/
theorem result_eq {F : FTy → Type} [FloatOps F] (m : (ℓ : Loc Cert.KernelIdeal.nD Cert.KernelIdeal.τ Cert.KernelIdeal.sig) → Buf (Elt F) ℓ)
    (c : Dev Cert.KernelIdeal.nD) :
    PosAdd.result m c = RefAdd.total (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  refine funext fun (j : Cert.KernelIdeal.S4x8192x1024.Idx) => ?_
  obtain ⟨b, t, e, rfl⟩ : ∃ b t e, j = ix3 b t e := ⟨_, _, _, eq_ix3 j⟩
  exact (PosAdd.folded_at _ _ b t e).trans (RefAdd.total_at _ _ b t e).symm

/-- From equal arguments the kernel and the reference end with equal results. -/
theorem algebraic : Cert.algebraic_KernelIdeal_ReferenceIdeal := fun m ρ m' ρ' _ hargs =>
  ⟨fun c => PosAdd.result m c,
    (θ_run Cert.KernelIdeal.defs _ _).mono (fun _ h c => ⟨(h.1 c).2.2, (h.1 c).1, (h.1 c).2.1⟩) (PosAdd.run_main (F := Ideal) m ρ),
    (θ_run Cert.ReferenceIdeal.defs _ _).mono
      (fun _ h c => ⟨(h c).1.trans ((congrArg₂ (RefAdd.total (F := Ideal)) (hargs c).1 (hargs c).2).trans (result_eq m c).symm), (h c).2⟩)
      (RefAdd.run (F := Ideal) m' ρ')⟩

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
